-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log_b1" .f32 0xBDD7C745#32 ((Real.log (7549747 / 8388608) : ℝ) : EReal)
  ∧ IdealRules.named_const.Statement Cert.KernelIdeal.κ "log_b2" .f32 0xBA8322CA#32 ((Real.log (16760439 / 16777216) : ℝ) : EReal)
  ∧ IdealRules.named_const.Statement Cert.KernelIdeal.κ "neg_lr_c1" .f32 0xB8D1B718#32 ((-13421773 / 134217728000 : ℝ) : EReal)
  ∧ IdealRules.named_const.Statement Cert.KernelIdeal.κ "b1_over_c1" .f32 0x41100000#32 ((120795952 / 13421773 : ℝ) : EReal)
  ∧ IdealRules.named_const.Statement Cert.KernelIdeal.κ "b2_over_c2" .f32 0x4479BFFF#32 ((8581344768 / 8589935 : ℝ) : EReal)
  ∧ IdealRules.named_const.Statement Cert.KernelIdeal.κ "neg_lr_wd" .f32 0xB727C5AC#32 ((-1 / 100000 : ℝ) : EReal)
  ∧ IdealRules.named_const.Statement Cert.KernelIdeal.κ "c1_over_127" .f32 0x3A4E69A0#32 ((13421773 / 17045651456 : ℝ) : EReal)
  ∧ IdealRules.named_const.Statement Cert.KernelIdeal.κ "c2_over_127" .f32 0x37041AA4#32 ((8589935 / 1090921693184 : ℝ) : EReal)

def algebraic_KernelIdeal_ReferenceIdeal_on_delta_defined [hKernelIdeal : Cert.KernelIdeal.Facts] [hReferenceIdeal : Cert.ReferenceIdeal.Facts] [hOn_delta_defined : Cert.On_delta_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![3072, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v1_0) i = v0 c i)
          ∧ (∀ i : (⟨2, ![3072, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v1_1) i = v1 c i)
          ∧ (∀ i : (⟨2, ![24, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v1_2) i = v2 c i)
          ∧ (∀ i : (⟨2, ![3072, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v1_3) i = v3 c i)
          ∧ (∀ i : (⟨2, ![24, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.KernelIdeal.nD Cert.KernelIdeal.τ).loc Cert.KernelIdeal.main_v1_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![3072, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v1_0) i = v0 c i)
          ∧ (∀ i : (⟨2, ![3072, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v1_1) i = v1 c i)
          ∧ (∀ i : (⟨2, ![24, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v1_2) i = v2 c i)
          ∧ (∀ i : (⟨2, ![3072, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v1_3) i = v3 c i)
          ∧ (∀ i : (⟨2, ![24, 5120]⟩ : Shape).Idx, (Cert.On_delta_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.ReferenceIdeal.nD Cert.ReferenceIdeal.τ).loc Cert.ReferenceIdeal.main_v1_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_delta_defined : Cert.On_delta_defined.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_delta_defined (hKernelIdeal := hKernelIdeal) (hReferenceIdeal := hReferenceIdeal) (hOn_delta_defined := hOn_delta_defined)
-- ==== On_delta_defined.lean ====
abbrev S3072x5120 : Shape := ⟨2, ![3072, 5120]⟩
abbrev S24x5120 : Shape := ⟨2, ![24, 5120]⟩
abbrev S_ : Shape := ⟨0, ![]⟩
abbrev S24x128x5120 : Shape := ⟨3, ![24, 128, 5120]⟩
abbrev S24x1x5120 : Shape := ⟨3, ![24, 1, 5120]⟩

class Facts : Prop where
  bitsLt_bf16_f32 : FTy.bits .bf16 < FTy.bits .f32
  natLt_8_32 : 8 < 32
  shapeCasts_S3072x5120_S24x128x5120 : S3072x5120.ShapeCasts S24x128x5120
  bcast_S24x5120_S24x1x5120_0_2 : S24x5120.BroadcastsInDim S24x1x5120 (![0, 2] : Fin 2 → Fin S24x1x5120.rank)
  bcast_S24x1x5120_S24x128x5120_0_1_2 : S24x1x5120.BroadcastsInDim S24x128x5120 (![0, 1, 2] : Fin 3 → Fin S24x128x5120.rank)
  shapeCasts_S24x128x5120_S3072x5120 : S24x128x5120.ShapeCasts S3072x5120
  bcast_S_S3072x5120 : S_.BroadcastsInDim S3072x5120 (![] : Fin 0 → Fin S3072x5120.rank)
  bcast_S_S24x5120 : S_.BroadcastsInDim S24x5120 (![] : Fin 0 → Fin S24x5120.rank)

variable [Facts]

def fn_part1 {F : FTy → Type} [FloatOps F] (main_v13 : FVec F S3072x5120 .f32) (main_v19 : IVec S3072x5120 1) : IVec S3072x5120 1 × IVec S3072x5120 1 × IVec S24x5120 1 × IVec S3072x5120 1 × IVec S24x5120 1 :=
  let main_cst_2 : FVec F S_ .f32 := constant S_ .f32 0x7F800000#32
  let main_v20 : FVec F S3072x5120 .f32 := broadcastInDim S3072x5120 ![] bcast_S_S3072x5120 main_cst_2
  let main_v21 : IVec S3072x5120 1 := cmpf .olt main_v13 main_v20
  let main_v22 : IVec S3072x5120 1 := andi main_v19 main_v21
  let main_cst_3 : FVec F S_ .f32 := constant S_ .f32 0x00000000#32
  let main_v23 : FVec F S3072x5120 .f32 := broadcastInDim S3072x5120 ![] bcast_S_S3072x5120 main_cst_3
  let main_v24 : IVec S3072x5120 1 := cmpf .oeq main_v13 main_v23
  let main_cst_4 : FVec F S_ .f32 := constant S_ .f32 0x3A83126F#32
  let main_v25 : FVec F S3072x5120 .f32 := broadcastInDim S3072x5120 ![] bcast_S_S3072x5120 main_cst_4
  let main_v26 : FVec F S3072x5120 .f32 := Host.divf main_v13 main_v25
  let main_cst_5 : FVec F S_ .f32 := constant S_ .f32 0x00800000#32
  let main_v27 : FVec F S3072x5120 .f32 := broadcastInDim S3072x5120 ![] bcast_S_S3072x5120 main_cst_5
  let main_v28 : IVec S3072x5120 1 := cmpf .oge main_v26 main_v27
  let main_v29 : IVec S3072x5120 1 := ori main_v24 main_v28
  let main_v30 : IVec S3072x5120 1 := andi main_v22 main_v29
  let main_c_6 : IVec S_ 1 := constantI S_ 1 1#1
  let main_v31 : IVec S3072x5120 1 := broadcastInDim S3072x5120 ![] bcast_S_S3072x5120 main_c_6
  let main_c_7 : IVec S_ 1 := constantI S_ 1 1#1
  let main_v32 : IVec S24x5120 1 := broadcastInDim S24x5120 ![] bcast_S_S24x5120 main_c_7
  let main_c_8 : IVec S_ 1 := constantI S_ 1 1#1
  let main_v33 : IVec S3072x5120 1 := broadcastInDim S3072x5120 ![] bcast_S_S3072x5120 main_c_8
  let main_c_9 : IVec S_ 1 := constantI S_ 1 1#1
  let main_v34 : IVec S24x5120 1 := broadcastInDim S24x5120 ![] bcast_S_S24x5120 main_c_9
  (main_v30, main_v31, main_v32, main_v33, main_v34)

def fn {F : FTy → Type} [FloatOps F] (main_arg0 : FVec F S3072x5120 .f32) (main_arg1 : FVec F S3072x5120 .bf16) (main_arg2 : IVec S3072x5120 8) (main_arg3 : FVec F S24x5120 .f32) (main_arg4 : IVec S3072x5120 8) (main_arg5 : FVec F S24x5120 .f32) (main_arg6 : IVec S_ 32) : IVec S3072x5120 1 × IVec S3072x5120 1 × IVec S24x5120 1 × IVec S3072x5120 1 × IVec S24x5120 1 :=
  let main_v0 : FVec F S3072x5120 .f32 := (extf .f32 · bitsLt_bf16_f32) main_arg1
  let main_v1 : IVec S3072x5120 32 := (extsi 32 · natLt_8_32) main_arg4
  let main_v2 : FVec F S3072x5120 .f32 := sitofp .f32 main_v1
  let main_v3 : FVec F S24x128x5120 .f32 := shapeCast S24x128x5120 main_v2 shapeCasts_S3072x5120_S24x128x5120
  let main_v4 : FVec F S24x1x5120 .f32 := broadcastInDim S24x1x5120 ![0, 2] bcast_S24x5120_S24x1x5120_0_2 main_arg5
  let main_v5 : FVec F S24x128x5120 .f32 := broadcastInDim S24x128x5120 ![0, 1, 2] bcast_S24x1x5120_S24x128x5120_0_1_2 main_v4
  let main_v6 : FVec F S24x128x5120 .f32 := mulf main_v3 main_v5
  let main_v7 : FVec F S3072x5120 .f32 := shapeCast S3072x5120 main_v6 shapeCasts_S24x128x5120_S3072x5120
  let main_cst : FVec F S_ .f32 := constant S_ .f32 0x3F7FBE77#32
  let main_v8 : FVec F S3072x5120 .f32 := broadcastInDim S3072x5120 ![] bcast_S_S3072x5120 main_cst
  let main_v9 : FVec F S3072x5120 .f32 := mulf main_v8 main_v7
  let main_v10 : FVec F S3072x5120 .f32 := mulf main_v0 main_v0
  let main_cst_0 : FVec F S_ .f32 := constant S_ .f32 0x3A83126F#32
  let main_v11 : FVec F S3072x5120 .f32 := broadcastInDim S3072x5120 ![] bcast_S_S3072x5120 main_cst_0
  let main_v12 : FVec F S3072x5120 .f32 := mulf main_v11 main_v10
  let main_v13 : FVec F S3072x5120 .f32 := addf main_v9 main_v12
  let main_c : IVec S_ 32 := constantI S_ 32 1#32
  let main_v14 : IVec S_ 1 := cmpi .sge main_arg6 main_c
  let main_v15 : FVec F S3072x5120 .f32 := Host.absf main_arg0
  let main_cst_1 : FVec F S_ .f32 := constant S_ .f32 0x7F800000#32
  let main_v16 : FVec F S3072x5120 .f32 := broadcastInDim S3072x5120 ![] bcast_S_S3072x5120 main_cst_1
  let main_v17 : IVec S3072x5120 1 := cmpf .olt main_v15 main_v16
  let main_v18 : IVec S3072x5120 1 := broadcastInDim S3072x5120 ![] bcast_S_S3072x5120 main_v14
  let main_v19 : IVec S3072x5120 1 := andi main_v18 main_v17
  fn_part1 (F := F) main_v13 main_v19
-- ==== Kernel.lean ====
abbrev S3072x5120 : Shape := ⟨2, ![3072, 5120]⟩
abbrev S24x5120 : Shape := ⟨2, ![24, 5120]⟩
abbrev S_ : Shape := ⟨0, ![]⟩
abbrev S1 : Shape := ⟨1, ![1]⟩
abbrev S1024x512 : Shape := ⟨2, ![1024, 512]⟩
abbrev S8x512 : Shape := ⟨2, ![8, 512]⟩
abbrev S1x128 : Shape := ⟨2, ![1, 128]⟩
abbrev S128x128 : Shape := ⟨2, ![128, 128]⟩
abbrev S128 : Shape := ⟨1, ![128]⟩

abbrev nBuf : Space → Nat
  | .hbm => 13
  | .vmem => 22
  | .smem => 1
  | _ => 0

abbrev bufTy : (tb : Table) → Fin (tcTables nBuf tb) → BufTy
  | .hbm, ⟨0, _⟩ => ⟨S3072x5120, .f32⟩
  | .hbm, ⟨1, _⟩ => ⟨S3072x5120, .bf16⟩
  | .hbm, ⟨2, _⟩ => ⟨S3072x5120, .i8⟩
  | .hbm, ⟨3, _⟩ => ⟨S24x5120, .f32⟩
  | .hbm, ⟨4, _⟩ => ⟨S3072x5120, .i8⟩
  | .hbm, ⟨5, _⟩ => ⟨S24x5120, .f32⟩
  | .hbm, ⟨6, _⟩ => ⟨S_, .i32⟩
  | .hbm, ⟨7, _⟩ => ⟨S1, .i32⟩
  | .hbm, ⟨8, _⟩ => ⟨S3072x5120, .f32⟩
  | .hbm, ⟨9, _⟩ => ⟨S3072x5120, .i8⟩
  | .hbm, ⟨10, _⟩ => ⟨S24x5120, .f32⟩
  | .hbm, ⟨11, _⟩ => ⟨S3072x5120, .i8⟩
  | .hbm, ⟨12, _⟩ => ⟨S24x5120, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .i8⟩
  | .local _ .vmem, ⟨5, _⟩ => ⟨S1024x512, .i8⟩
  | .local _ .vmem, ⟨6, _⟩ => ⟨S8x512, .f32⟩
  | .local _ .vmem, ⟨7, _⟩ => ⟨S8x512, .f32⟩
  | .local _ .vmem, ⟨8, _⟩ => ⟨S1024x512, .i8⟩
  | .local _ .vmem, ⟨9, _⟩ => ⟨S1024x512, .i8⟩
  | .local _ .vmem, ⟨10, _⟩ => ⟨S8x512, .f32⟩
  | .local _ .vmem, ⟨11, _⟩ => ⟨S8x512, .f32⟩
  | .local _ .vmem, ⟨12, _⟩ => ⟨S1024x512, .f32⟩
  | .local _ .vmem, ⟨13, _⟩ => ⟨S1024x512, .f32⟩
  | .local _ .vmem, ⟨14, _⟩ => ⟨S1024x512, .i8⟩
  | .local _ .vmem, ⟨15, _⟩ => ⟨S1024x512, .i8⟩
  | .local _ .vmem, ⟨16, _⟩ => ⟨S8x512, .f32⟩
  | .local _ .vmem, ⟨17, _⟩ => ⟨S8x512, .f32⟩
  | .local _ .vmem, ⟨18, _⟩ => ⟨S1024x512, .i8⟩
  | .local _ .vmem, ⟨19, _⟩ => ⟨S1024x512, .i8⟩
  | .local _ .vmem, ⟨20, _⟩ => ⟨S8x512, .f32⟩
  | .local _ .vmem, ⟨21, _⟩ => ⟨S8x512, .f32⟩
  | .local _ .smem, ⟨0, _⟩ => ⟨S1, .i32⟩
  | _, _ => ⟨S3072x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![3, 10], ![false, false]⟩

@[reducible] def k0_t1_loop : Scf.Loop 32 :=
  let c0_i32 : BitVec 32 := 0#32
  let c4_i32 : BitVec 32 := 4#32
  let v21 : BitVec 32 := Scalar.addi c0_i32 c4_i32
  let c1_i32 : BitVec 32 := 1#32
  ⟨c0_i32, v21, c1_i32⟩
def k0_mult1 (k0_t1 : Fin k0_t1_loop.trips) : BitVec 32 :=
  let c0_i32_36 : BitVec 32 := 0#32
  let c0_i32 : BitVec 32 := 0#32
  let c1_i32 : BitVec 32 := 1#32
  let arg14 : BitVec 32 := Scf.iv c0_i32 c1_i32 k0_t1
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  v31
def k0_off1 (k0_t1 : Fin k0_t1_loop.trips) : Fin 2 → Nat :=
  let c0_37 : Index := 0#32
  let c0_i32_36 : BitVec 32 := 0#32
  let c0_i32 : BitVec 32 := 0#32
  let c1_i32 : BitVec 32 := 1#32
  let arg14 : BitVec 32 := Scf.iv c0_i32 c1_i32 k0_t1
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v33 : Index := Scalar.indexCast v32
  ![0, v33.toNat]
def k0_off2 (k0_t1 : Fin k0_t1_loop.trips) : Fin 2 → Nat :=
  let c0_39 : Index := 0#32
  let c0_i32_36 : BitVec 32 := 0#32
  let c0_i32 : BitVec 32 := 0#32
  let c1_i32 : BitVec 32 := 1#32
  let arg14 : BitVec 32 := Scf.iv c0_i32 c1_i32 k0_t1
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v40 : Index := Scalar.indexCast v32
  ![0, v40.toNat]
@[reducible] def k0_t2_loop : Scf.Loop 32 :=
  let c0_i32_7 : BitVec 32 := 0#32
  let c4_i32_8 : BitVec 32 := 4#32
  let v22 : BitVec 32 := Scalar.addi c0_i32_7 c4_i32_8
  let c1_i32_9 : BitVec 32 := 1#32
  ⟨c0_i32_7, v22, c1_i32_9⟩
def k0_mult2 (k0_t2 : Fin k0_t2_loop.trips) : BitVec 32 :=
  let c0_i32_36 : BitVec 32 := 0#32
  let c0_i32_7 : BitVec 32 := 0#32
  let c1_i32_9 : BitVec 32 := 1#32
  let arg14 : BitVec 32 := Scf.iv c0_i32_7 c1_i32_9 k0_t2
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  v31
def k0_off3 (k0_t2 : Fin k0_t2_loop.trips) : Fin 2 → Nat :=
  let c128 : Index := 128#32
  let c0_i32_36 : BitVec 32 := 0#32
  let c0_i32_7 : BitVec 32 := 0#32
  let c1_i32_9 : BitVec 32 := 1#32
  let arg14 : BitVec 32 := Scf.iv c0_i32_7 c1_i32_9 k0_t2
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v33 : Index := Scalar.indexCast v32
  ![128, v33.toNat]
def k0_off4 (k0_t2 : Fin k0_t2_loop.trips) : Fin 2 → Nat :=
  let c1 : Index := 1#32
  let c0_i32_36 : BitVec 32 := 0#32
  let c0_i32_7 : BitVec 32 := 0#32
  let c1_i32_9 : BitVec 32 := 1#32
  let arg14 : BitVec 32 := Scf.iv c0_i32_7 c1_i32_9 k0_t2
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v40 : Index := Scalar.indexCast v32
  ![1, v40.toNat]
@[reducible] def k0_t3_loop : Scf.Loop 32 :=
  let c0_i32_11 : BitVec 32 := 0#32
  let c4_i32_12 : BitVec 32 := 4#32
  let v23 : BitVec 32 := Scalar.addi c0_i32_11 c4_i32_12
  let c1_i32_13 : BitVec 32 := 1#32
  ⟨c0_i32_11, v23, c1_i32_13⟩
def k0_mult3 (k0_t3 : Fin k0_t3_loop.trips) : BitVec 32 :=
  let c0_i32_36 : BitVec 32 := 0#32
  let c0_i32_11 : BitVec 32 := 0#32
  let c1_i32_13 : BitVec 32 := 1#32
  let arg14 : BitVec 32 := Scf.iv c0_i32_11 c1_i32_13 k0_t3
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  v31
def k0_off5 (k0_t3 : Fin k0_t3_loop.trips) : Fin 2 → Nat :=
  let c256 : Index := 256#32
  let c0_i32_36 : BitVec 32 := 0#32
  let c0_i32_11 : BitVec 32 := 0#32
  let c1_i32_13 : BitVec 32 := 1#32
  let arg14 : BitVec 32 := Scf.iv c0_i32_11 c1_i32_13 k0_t3
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v33 : Index := Scalar.indexCast v32
  ![256, v33.toNat]
def k0_off6 (k0_t3 : Fin k0_t3_loop.trips) : Fin 2 → Nat :=
  let c2 : Index := 2#32
  let c0_i32_36 : BitVec 32 := 0#32
  let c0_i32_11 : BitVec 32 := 0#32
  let c1_i32_13 : BitVec 32 := 1#32
  let arg14 : BitVec 32 := Scf.iv c0_i32_11 c1_i32_13 k0_t3
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v40 : Index := Scalar.indexCast v32
  ![2, v40.toNat]
@[reducible] def k0_t4_loop : Scf.Loop 32 :=
  let c0_i32_15 : BitVec 32 := 0#32
  let c4_i32_16 : BitVec 32 := 4#32
  let v24 : BitVec 32 := Scalar.addi c0_i32_15 c4_i32_16
  let c1_i32_17 : BitVec 32 := 1#32
  ⟨c0_i32_15, v24, c1_i32_17⟩
def k0_mult4 (k0_t4 : Fin k0_t4_loop.trips) : BitVec 32 :=
  let c0_i32_36 : BitVec 32 := 0#32
  let c0_i32_15 : BitVec 32 := 0#32
  let c1_i32_17 : BitVec 32 := 1#32
  let arg14 : BitVec 32 := Scf.iv c0_i32_15 c1_i32_17 k0_t4
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  v31
def k0_off7 (k0_t4 : Fin k0_t4_loop.trips) : Fin 2 → Nat :=
  let c384 : Index := 384#32
  let c0_i32_36 : BitVec 32 := 0#32
  let c0_i32_15 : BitVec 32 := 0#32
  let c1_i32_17 : BitVec 32 := 1#32
  let arg14 : BitVec 32 := Scf.iv c0_i32_15 c1_i32_17 k0_t4
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v33 : Index := Scalar.indexCast v32
  ![384, v33.toNat]
def k0_off8 (k0_t4 : Fin k0_t4_loop.trips) : Fin 2 → Nat :=
  let c3 : Index := 3#32
  let c0_i32_36 : BitVec 32 := 0#32
  let c0_i32_15 : BitVec 32 := 0#32
  let c1_i32_17 : BitVec 32 := 1#32
  let arg14 : BitVec 32 := Scf.iv c0_i32_15 c1_i32_17 k0_t4
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v40 : Index := Scalar.indexCast v32
  ![3, v40.toNat]
@[reducible] def k0_t5_loop : Scf.Loop 32 :=
  let c0_i32_19 : BitVec 32 := 0#32
  let c4_i32_20 : BitVec 32 := 4#32
  let v25 : BitVec 32 := Scalar.addi c0_i32_19 c4_i32_20
  let c1_i32_21 : BitVec 32 := 1#32
  ⟨c0_i32_19, v25, c1_i32_21⟩
def k0_mult5 (k0_t5 : Fin k0_t5_loop.trips) : BitVec 32 :=
  let c0_i32_36 : BitVec 32 := 0#32
  let c0_i32_19 : BitVec 32 := 0#32
  let c1_i32_21 : BitVec 32 := 1#32
  let arg14 : BitVec 32 := Scf.iv c0_i32_19 c1_i32_21 k0_t5
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  v31
def k0_off9 (k0_t5 : Fin k0_t5_loop.trips) : Fin 2 → Nat :=
  let c512 : Index := 512#32
  let c0_i32_36 : BitVec 32 := 0#32
  let c0_i32_19 : BitVec 32 := 0#32
  let c1_i32_21 : BitVec 32 := 1#32
  let arg14 : BitVec 32 := Scf.iv c0_i32_19 c1_i32_21 k0_t5
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v33 : Index := Scalar.indexCast v32
  ![512, v33.toNat]
def k0_off10 (k0_t5 : Fin k0_t5_loop.trips) : Fin 2 → Nat :=
  let c4 : Index := 4#32
  let c0_i32_36 : BitVec 32 := 0#32
  let c0_i32_19 : BitVec 32 := 0#32
  let c1_i32_21 : BitVec 32 := 1#32
  let arg14 : BitVec 32 := Scf.iv c0_i32_19 c1_i32_21 k0_t5
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v40 : Index := Scalar.indexCast v32
  ![4, v40.toNat]
@[reducible] def k0_t6_loop : Scf.Loop 32 :=
  let c0_i32_23 : BitVec 32 := 0#32
  let c4_i32_24 : BitVec 32 := 4#32
  let v26 : BitVec 32 := Scalar.addi c0_i32_23 c4_i32_24
  let c1_i32_25 : BitVec 32 := 1#32
  ⟨c0_i32_23, v26, c1_i32_25⟩
def k0_mult6 (k0_t6 : Fin k0_t6_loop.trips) : BitVec 32 :=
  let c0_i32_36 : BitVec 32 := 0#32
  let c0_i32_23 : BitVec 32 := 0#32
  let c1_i32_25 : BitVec 32 := 1#32
  let arg14 : BitVec 32 := Scf.iv c0_i32_23 c1_i32_25 k0_t6
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  v31
def k0_off11 (k0_t6 : Fin k0_t6_loop.trips) : Fin 2 → Nat :=
  let c640 : Index := 640#32
  let c0_i32_36 : BitVec 32 := 0#32
  let c0_i32_23 : BitVec 32 := 0#32
  let c1_i32_25 : BitVec 32 := 1#32
  let arg14 : BitVec 32 := Scf.iv c0_i32_23 c1_i32_25 k0_t6
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v33 : Index := Scalar.indexCast v32
  ![640, v33.toNat]
def k0_off12 (k0_t6 : Fin k0_t6_loop.trips) : Fin 2 → Nat :=
  let c5 : Index := 5#32
  let c0_i32_36 : BitVec 32 := 0#32
  let c0_i32_23 : BitVec 32 := 0#32
  let c1_i32_25 : BitVec 32 := 1#32
  let arg14 : BitVec 32 := Scf.iv c0_i32_23 c1_i32_25 k0_t6
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v40 : Index := Scalar.indexCast v32
  ![5, v40.toNat]
@[reducible] def k0_t7_loop : Scf.Loop 32 :=
  let c0_i32_27 : BitVec 32 := 0#32
  let c4_i32_28 : BitVec 32 := 4#32
  let v27 : BitVec 32 := Scalar.addi c0_i32_27 c4_i32_28
  let c1_i32_29 : BitVec 32 := 1#32
  ⟨c0_i32_27, v27, c1_i32_29⟩
def k0_mult7 (k0_t7 : Fin k0_t7_loop.trips) : BitVec 32 :=
  let c0_i32_36 : BitVec 32 := 0#32
  let c0_i32_27 : BitVec 32 := 0#32
  let c1_i32_29 : BitVec 32 := 1#32
  let arg14 : BitVec 32 := Scf.iv c0_i32_27 c1_i32_29 k0_t7
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  v31
def k0_off13 (k0_t7 : Fin k0_t7_loop.trips) : Fin 2 → Nat :=
  let c768 : Index := 768#32
  let c0_i32_36 : BitVec 32 := 0#32
  let c0_i32_27 : BitVec 32 := 0#32
  let c1_i32_29 : BitVec 32 := 1#32
  let arg14 : BitVec 32 := Scf.iv c0_i32_27 c1_i32_29 k0_t7
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v33 : Index := Scalar.indexCast v32
  ![768, v33.toNat]
def k0_off14 (k0_t7 : Fin k0_t7_loop.trips) : Fin 2 → Nat :=
  let c6 : Index := 6#32
  let c0_i32_36 : BitVec 32 := 0#32
  let c0_i32_27 : BitVec 32 := 0#32
  let c1_i32_29 : BitVec 32 := 1#32
  let arg14 : BitVec 32 := Scf.iv c0_i32_27 c1_i32_29 k0_t7
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v40 : Index := Scalar.indexCast v32
  ![6, v40.toNat]
@[reducible] def k0_t8_loop : Scf.Loop 32 :=
  let c0_i32_31 : BitVec 32 := 0#32
  let c4_i32_32 : BitVec 32 := 4#32
  let v28 : BitVec 32 := Scalar.addi c0_i32_31 c4_i32_32
  let c1_i32_33 : BitVec 32 := 1#32
  ⟨c0_i32_31, v28, c1_i32_33⟩
def k0_mult8 (k0_t8 : Fin k0_t8_loop.trips) : BitVec 32 :=
  let c0_i32_36 : BitVec 32 := 0#32
  let c0_i32_31 : BitVec 32 := 0#32
  let c1_i32_33 : BitVec 32 := 1#32
  let arg14 : BitVec 32 := Scf.iv c0_i32_31 c1_i32_33 k0_t8
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  v31
def k0_off15 (k0_t8 : Fin k0_t8_loop.trips) : Fin 2 → Nat :=
  let c896 : Index := 896#32
  let c0_i32_36 : BitVec 32 := 0#32
  let c0_i32_31 : BitVec 32 := 0#32
  let c1_i32_33 : BitVec 32 := 1#32
  let arg14 : BitVec 32 := Scf.iv c0_i32_31 c1_i32_33 k0_t8
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v33 : Index := Scalar.indexCast v32
  ![896, v33.toNat]
def k0_off16 (k0_t8 : Fin k0_t8_loop.trips) : Fin 2 → Nat :=
  let c7 : Index := 7#32
  let c0_i32_36 : BitVec 32 := 0#32
  let c0_i32_31 : BitVec 32 := 0#32
  let c1_i32_33 : BitVec 32 := 1#32
  let arg14 : BitVec 32 := Scf.iv c0_i32_31 c1_i32_33 k0_t8
  let c1_i32_35 : BitVec 32 := 1#32
  let v29 : BitVec 32 := Scalar.muli arg14 c1_i32_35
  let v30 : BitVec 32 := Scalar.addi c0_i32_36 v29
  let c128_i32 : BitVec 32 := 128#32
  let v31 : BitVec 32 := Scalar.muli v30 c128_i32
  let v32 : BitVec 32 := v31
  let v40 : Index := Scalar.indexCast v32
  ![7, v40.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "b1_over_c1" => some ((120795952 / 13421773 : ℝ) : EReal)
  | "b2_over_c2" => some ((8581344768 / 8589935 : ℝ) : EReal)
  | "c1_over_127" => some ((13421773 / 17045651456 : ℝ) : EReal)
  | "c2_over_127" => some ((8589935 / 1090921693184 : ℝ) : EReal)
  | "log_b1" => some ((Real.log (7549747 / 8388608) : ℝ) : EReal)
  | "log_b2" => some ((Real.log (16760439 / 16777216) : ℝ) : EReal)
  | "neg_lr_c1" => some ((-13421773 / 134217728000 : ℝ) : EReal)
  | "neg_lr_wd" => some ((-1 / 100000 : ℝ) : EReal)
  | _ => none
-- ==== ReferenceIdeal.lean ====
abbrev S3072x5120 : Shape := ⟨2, ![3072, 5120]⟩
abbrev S24x5120 : Shape := ⟨2, ![24, 5120]⟩
abbrev S_ : Shape := ⟨0, ![]⟩
abbrev S1 : Shape := ⟨1, ![1]⟩
abbrev S24x128x5120 : Shape := ⟨3, ![24, 128, 5120]⟩
abbrev S24x1x5120 : Shape := ⟨3, ![24, 1, 5120]⟩

abbrev nBuf : Space → Nat
  | .hbm => 13
  | .vmem => 11
  | .smem => 1
  | _ => 0

abbrev bufTy : (tb : Table) → Fin (tcTables nBuf tb) → BufTy
  | .hbm, ⟨0, _⟩ => ⟨S3072x5120, .f32⟩
  | .hbm, ⟨1, _⟩ => ⟨S3072x5120, .bf16⟩
  | .hbm, ⟨2, _⟩ => ⟨S3072x5120, .i8⟩
  | .hbm, ⟨3, _⟩ => ⟨S24x5120, .f32⟩
  | .hbm, ⟨4, _⟩ => ⟨S3072x5120, .i8⟩
  | .hbm, ⟨5, _⟩ => ⟨S24x5120, .f32⟩
  | .hbm, ⟨6, _⟩ => ⟨S_, .i32⟩
  | .hbm, ⟨7, _⟩ => ⟨S1, .i32⟩
  | .hbm, ⟨8, _⟩ => ⟨S3072x5120, .f32⟩
  | .hbm, ⟨9, _⟩ => ⟨S3072x5120, .i8⟩
  | .hbm, ⟨10, _⟩ => ⟨S24x5120, .f32⟩
  | .hbm, ⟨11, _⟩ => ⟨S3072x5120, .i8⟩
  | .hbm, ⟨12, _⟩ => ⟨S24x5120, .f32⟩
  | .local _ .vmem, ⟨0, _⟩ => ⟨S3072x5120, .f32⟩
  | .local _ .vmem, ⟨1, _⟩ => ⟨S3072x5120, .bf16⟩
  | .local _ .vmem, ⟨2, _⟩ => ⟨S3072x5120, .i8⟩
  | .local _ .vmem, ⟨3, _⟩ => ⟨S24x5120, .f32⟩
  | .local _ .vmem, ⟨4, _⟩ => ⟨S3072x5120, .i8⟩
  | .local _ .vmem, ⟨5, _⟩ => ⟨S24x5120, .f32⟩
  | .local _ .vmem, ⟨6, _⟩ => ⟨S3072x5120, .f32⟩
  | .local _ .vmem, ⟨7, _⟩ => ⟨S3072x5120, .i8⟩
  | .local _ .vmem, ⟨8, _⟩ => ⟨S24x5120, .f32⟩
  | .local _ .vmem, ⟨9, _⟩ => ⟨S3072x5120, .i8⟩
  | .local _ .vmem, ⟨10, _⟩ => ⟨S24x5120, .f32⟩
  | .local _ .smem, ⟨0, _⟩ => ⟨S1, .i32⟩
  | _, _ => ⟨S3072x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "neg_lr" => some ((-1 / 1000 : ℝ) : EReal)
  | "wd" => some ((1 / 100 : ℝ) : EReal)
  | _ => none

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x5120 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x5120 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072x5120 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x5120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Scalars.lean ====
/- The arithmetic of one moment over the extended reals: the folded moment against the plain one, the largest magnitude
   of a block, its scale and the codes. Nothing here is about a program. -/
module

public import Idealize.ShloMosaic.Lib.Pointwise
public import Mathlib.Algebra.Order.Floor.Ring

@[expose] public section

noncomputable section

namespace Cert.Adam

open Idealize.ShloMosaic

/-! ### The literals -/

theorem ofBits_127 : Ideal.ofBits .f32 0x42FE0000#32 = ((127 : ℝ) : EReal) := by
  simp [Ideal.ofBits, Ideal.ieee, -EReal.coe_mul]; norm_num

theorem ofBits_neg_127 : Ideal.ofBits .f32 0xC2FE0000#32 = ((-127 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem ofBits_b1 : Ideal.ofBits .f32 0x3F666666#32 = ((7549747 / 8388608 : ℝ) : EReal) := by
  simp [Ideal.ofBits, Ideal.ieee, -EReal.coe_mul]; norm_num

theorem ofBits_c1 : Ideal.ofBits .f32 0x3DCCCCCD#32 = ((13421773 / 134217728 : ℝ) : EReal) := by
  simp [Ideal.ofBits, Ideal.ieee, -EReal.coe_mul]; norm_num

theorem ofBits_b2 : Ideal.ofBits .f32 0x3F7FBE77#32 = ((16760439 / 16777216 : ℝ) : EReal) := by
  simp [Ideal.ofBits, Ideal.ieee, -EReal.coe_mul]; norm_num

theorem ofBits_c2 : Ideal.ofBits .f32 0x3A83126F#32 = ((8589935 / 8589934592 : ℝ) : EReal) := by
  simp [Ideal.ofBits, Ideal.ieee, -EReal.coe_mul]; norm_num

/-! ### A moment -/

/-- A moment with its decay rate folded into the scale: `n · (s · k) + x`. -/
def folded (k : ℝ) (n s x : EReal) : EReal := n * (s * (k : EReal)) + x

/-- A moment as the optimiser states it: `b · (n · s) + c · x`. -/
def moment (b c : ℝ) (n s x : EReal) : EReal := (b : EReal) * (n * s) + (c : EReal) * x

/-- The plain moment is `c` times the folded one when `c · k = b`. -/
theorem moment_eq {b c k : ℝ} (hc : 0 ≤ c) (h : c * k = b) (n s x : EReal) :
    moment b c n s x = (c : EReal) * folded k n s x := by
  unfold moment folded
  rw [EReal.left_distrib_of_nonneg_of_ne_top (EReal.coe_nonneg.2 hc) (EReal.coe_ne_top c), ← h, EReal.coe_mul]
  congr 1
  ac_rfl

/-! ### The largest magnitude of a block of 128 rows -/

/-- The largest magnitude of 128 values. -/
def amax (f : Fin 128 → EReal) : EReal := Finset.univ.fold max ⊥ fun r => max (f r) (-f r)

/-- A positive factor comes out of the largest magnitude. -/
theorem amax_mul {c : ℝ} (hc : 0 < c) (f : Fin 128 → EReal) : amax (fun r => (c : EReal) * f r) = (c : EReal) * amax f := by
  have hm : Monotone fun x : EReal => (c : EReal) * x :=
    fun a b h => mul_le_mul_of_nonneg_left h (EReal.coe_nonneg.2 hc.le)
  unfold amax
  rw [← Finset.fold_hom (op' := max) (m := fun x : EReal => (c : EReal) * x) fun x y => hm.map_max]
  have hb : (c : EReal) * ⊥ = ⊥ := EReal.coe_mul_bot_of_pos hc
  simp only [hb]
  congr 1
  funext r
  rw [hm.map_max, mul_neg]

/-- Each value's magnitude is at most the largest. -/
theorem le_amax (f : Fin 128 → EReal) (r : Fin 128) : max (f r) (-f r) ≤ amax f :=
  Finset.le_fold_max (c := max (f r) (-f r)) |>.2 (.inr ⟨r, Finset.mem_univ r, le_rfl⟩)

/-! ### The scale -/

/-- The scale as the folded form computes it. -/
def scaleF (k : ℝ) (a : EReal) : EReal := if a = 0 then 1 else a * (k : EReal)

/-- The scale as the quantiser states it: the largest magnitude over 127, or 1 where the block is zero. -/
def scaleQ (a : EReal) : EReal := if a = 0 then 1 else Ideal.div a ((127 : ℝ) : EReal)

theorem coe_mul_eq_zero {c : ℝ} (hc : 0 < c) (a : EReal) : (c : EReal) * a = 0 ↔ a = 0 := by
  rw [mul_eq_zero]
  exact or_iff_right (by exact_mod_cast hc.ne')

/-- The scale of `c` times a block is the folded scale with `c / 127`. -/
theorem scaleQ_mul {c k : ℝ} (hc : 0 < c) (hk : k = c / 127) (a : EReal) :
    scaleQ ((c : EReal) * a) = scaleF k a := by
  unfold scaleQ scaleF
  simp only [coe_mul_eq_zero hc]
  split
  · rfl
  · rw [Ideal.div_coe (by norm_num), hk, mul_comm (c : EReal) a, mul_assoc, ← EReal.coe_mul]
    congr 3; ring

/-! ### The codes -/

theorem roundHalfEven_monotone : Monotone Ideal.roundHalfEven := by
  intro x y h
  have key : ∀ z : ℝ, z - 1 / 2 ≤ (Ideal.roundHalfEven z : ℝ) ∧ (Ideal.roundHalfEven z : ℝ) ≤ z + 1 / 2 := by
    intro z
    have h1 := Int.floor_le z
    have h2 := Int.lt_floor_add_one z
    unfold Ideal.roundHalfEven
    simp only
    split
    · constructor <;> linarith
    · split
      · push_cast; constructor <;> linarith
      · split
        · constructor <;> linarith
        · push_cast; constructor <;> linarith
  rcases h.eq_or_lt with rfl | hlt
  · exact le_rfl
  by_cases hf : ⌊x⌋ = ⌊y⌋
  · unfold Ideal.roundHalfEven
    simp only [hf]
    split_ifs <;> first | omega | (exfalso; linarith)
  · have hf' : ⌊x⌋ + 1 ≤ ⌊y⌋ := by
      have := Int.floor_le_floor h
      omega
    have ux : Ideal.roundHalfEven x ≤ ⌊x⌋ + 1 := by
      unfold Ideal.roundHalfEven; simp only; split_ifs <;> omega
    have ly : ⌊y⌋ ≤ Ideal.roundHalfEven y := by
      unfold Ideal.roundHalfEven; simp only; split_ifs <;> omega
    omega

theorem roundHalfEven_intCast (n : ℤ) : Ideal.roundHalfEven (n : ℝ) = n := by
  simp [Ideal.roundHalfEven]

theorem liftRound_monotone {f : ℝ → ℤ} (hf : Monotone f) : Monotone (Ideal.liftRound f) := by
  intro x y h
  induction x with
  | bot => exact bot_le
  | top => rw [top_le_iff.1 h]
  | coe x =>
    induction y with
    | bot => exact absurd h (not_le.2 (EReal.bot_lt_coe x))
    | top => exact le_top
    | coe y =>
      rw [Ideal.liftRound_coe, Ideal.liftRound_coe]
      exact_mod_cast hf (EReal.coe_le_coe_iff.1 h)

/-- Rounding commutes with clipping to whole bounds. -/
theorem round_clip (x : EReal) :
    Ideal.liftRound Ideal.roundHalfEven (min ((127 : ℝ) : EReal) (max ((-127 : ℝ) : EReal) x))
      = min ((127 : ℝ) : EReal) (max ((-127 : ℝ) : EReal) (Ideal.liftRound Ideal.roundHalfEven x)) := by
  have hm := liftRound_monotone roundHalfEven_monotone
  have h1 : Ideal.liftRound Ideal.roundHalfEven ((127 : ℝ) : EReal) = ((127 : ℝ) : EReal) := by
    rw [Ideal.liftRound_coe]
    have := roundHalfEven_intCast 127
    push_cast at this
    rw [this]; norm_num
  have h2 : Ideal.liftRound Ideal.roundHalfEven ((-127 : ℝ) : EReal) = ((-127 : ℝ) : EReal) := by
    rw [Ideal.liftRound_coe]
    have := roundHalfEven_intCast (-127)
    push_cast at this
    rw [this]; norm_num
  rw [hm.map_min, hm.map_max, h1, h2]

/-- The factor that the folded form multiplies a block by. -/
def invF (a : EReal) : EReal := if a = 0 then 1 else Ideal.div ((127 : ℝ) : EReal) a

/-- A code of the folded form: multiply, clip, round, convert. -/
def codeF (x a : EReal) : BitVec 8 :=
  Ideal.fptosi 8 (Ideal.liftRound Ideal.roundHalfEven (min ((127 : ℝ) : EReal) (max ((-127 : ℝ) : EReal) (x * invF a))))

/-- A code as the quantiser states it: divide by the scale, round, clip, convert. -/
def codeQ (x s : EReal) : BitVec 8 :=
  Ideal.fptosi 8 (min ((127 : ℝ) : EReal) (max ((-127 : ℝ) : EReal) (Ideal.liftRound Ideal.roundHalfEven (Ideal.div x s))))

theorem eq_zero_of_magnitude {x : EReal} (h : max x (-x) ≤ 0) : x = 0 :=
  le_antisymm ((le_max_left _ _).trans h) (by simpa using (le_max_right _ _).trans h)

theorem div_scaleQ {c : ℝ} (hc : 0 < c) {x a : EReal} (h : max x (-x) ≤ a) :
    Ideal.div ((c : EReal) * x) (scaleQ ((c : EReal) * a)) = x * invF a := by
  unfold scaleQ invF
  simp only [coe_mul_eq_zero hc]
  by_cases ha : a = 0
  · subst ha
    rw [eq_zero_of_magnitude h]
    simp [Ideal.div]
  rw [if_neg ha, if_neg ha, Ideal.div_coe (by norm_num)]
  have hpos : 0 ≤ a := by
    refine le_trans ?_ h
    rcases le_total 0 x with h0 | h0
    · exact h0.trans (le_max_left _ _)
    · exact (EReal.neg_nonneg.2 h0).trans (le_max_right _ _)
  induction a with
  | bot => exact absurd hpos (by simp)
  | top =>
    rw [EReal.coe_mul_top_of_pos hc, EReal.top_mul_coe_of_pos (by norm_num)]
    simp [Ideal.div]
  | coe a =>
    have ha0 : a ≠ 0 := by exact_mod_cast ha
    rw [Ideal.div_coe ha0, ← EReal.coe_mul, ← EReal.coe_mul, Ideal.div_coe (by positivity), mul_comm (c : EReal) x,
      mul_assoc, ← EReal.coe_mul, ← EReal.coe_mul]
    congr 2
    field_simp

/-- The codes of `c` times a block are the folded codes, wherever the block's largest magnitude bounds the value. -/
theorem codeQ_mul {c : ℝ} (hc : 0 < c) {x a : EReal} (h : max x (-x) ≤ a) :
    codeQ ((c : EReal) * x) (scaleQ ((c : EReal) * a)) = codeF x a := by
  unfold codeQ codeF
  rw [div_scaleQ hc h, round_clip]

end Cert.Adam
-- ==== Proof.Reductions.lean ====
/- The operations that the two programs quantise with, read at an index, at any sizes: the maximum of the magnitudes over
   an axis, the scale and the codes. -/
module

public import proofs.«01_k».proof.Proof.Scalars

@[expose] public section

noncomputable section

namespace Cert.Adam

open Idealize.ShloMosaic

/-- An int8 code as an extended real. -/
abbrev code (b : BitVec 8) : EReal := ((b.toInt : ℝ) : EReal)

/-- The maximum of the magnitudes over the middle axis of three. -/
theorem amax_axis1 {A C : ℕ} (m : FVec Ideal ⟨3, ![A, 128, C]⟩ .f32)
    (h : Shape.Reduces ⟨3, ![A, 128, C]⟩ [1] ⟨2, ![A, C]⟩)
    (hf : FKind.Formats .f32) (hacc : 0xFF800000#32 = FKind.maximumf.neutral .f32 hf) (a : Fin A) (c : Fin C) :
    multiReduction .maximumf [1] ⟨2, ![A, C]⟩ (absf m) 0xFF800000#32 h hf hacc (ix2 a c)
      = amax fun r => m (ix3 a r c) := by
  refine (Ideal.multiReduction_maximumf_single (a := (1 : Fin 3)) (absf m) _ h hf hacc (ix2 a c)).trans ?_
  have e : (absf m ∘ h.lift (ix2 a c) : Fin 128 → EReal) = fun r : Fin 128 => max (m (ix3 a r c)) (-m (ix3 a r c)) := by
    funext r
    refine congrArg (absf m) (a₂ := ix3 a r c) ?_
    funext d
    fin_cases d <;> rfl
  exact (congrArg (fun f => Finset.univ.fold max (Ideal.ofBits .f32 0xFF800000#32) f) e).trans (by rw [ofBits_neg_inf]; rfl)

/-- The maximum of the magnitudes over the first axis of two. -/
theorem amax_axis0 {C : ℕ} (m : FVec Ideal ⟨2, ![128, C]⟩ .f32)
    (h : Shape.Reduces ⟨2, ![128, C]⟩ [0] ⟨1, ![C]⟩)
    (hf : FKind.Formats .f32) (hacc : 0xFF800000#32 = FKind.maximumf.neutral .f32 hf) (c : Fin C) :
    multiReduction .maximumf [0] ⟨1, ![C]⟩ (absf m) 0xFF800000#32 h hf hacc (ix1 c) = amax fun r => m (ix2 r c) := by
  refine (Ideal.multiReduction_maximumf_single (a := (0 : Fin 2)) (absf m) _ h hf hacc (ix1 c)).trans ?_
  have e : (absf m ∘ h.lift (ix1 c) : Fin 128 → EReal) = fun r : Fin 128 => max (m (ix2 r c)) (-m (ix2 r c)) := by
    funext r
    refine congrArg (absf m) (a₂ := ix2 r c) ?_
    funext d
    fin_cases d <;> rfl
  exact (congrArg (fun f => Finset.univ.fold max (Ideal.ofBits .f32 0xFF800000#32) f) e).trans (by rw [ofBits_neg_inf]; rfl)

/-- The quantiser's scale, at an index. -/
theorem scaleQ_vec {s : Shape} (y : FVec Ideal s .f32) (j : s.Idx) :
    select (cmpf .oeq y (broadcast s (Scalar.ofBits .f32 0x00000000#32))) (broadcast s (Scalar.ofBits .f32 0x3F800000#32))
      (divf y (broadcast s (Scalar.ofBits .f32 0x42FE0000#32))) j = scaleQ (y j) := by
  pointwise [scaleQ]
  rw [ofBits_127]

/-- The quantiser's codes, at an index. -/
theorem codeQ_vec {s : Shape} (x y : FVec Ideal s .f32) (j : s.Idx) :
    fptosi 8 (minimumf (broadcast s (Scalar.ofBits .f32 0x42FE0000#32))
      (maximumf (broadcast s (Scalar.ofBits .f32 0xC2FE0000#32)) (roundeven (divf x y)))) j = codeQ (x j) (y j) := by
  pointwise [codeQ]
  rw [ofBits_127, ofBits_neg_127]
  rfl

/-- The folded scale, at an index. -/
theorem scaleF_vec {s : Shape} (y : FVec Ideal s .f32) (k : ℝ) (j : s.Idx) :
    select (cmpf .oeq y (broadcast s (Scalar.ofBits .f32 0x00000000#32))) (broadcast s (Scalar.ofBits .f32 0x3F800000#32))
      (mulf y (broadcast s (k : EReal))) j = scaleF k (y j) := by
  pointwise [scaleF]

/-- The factor of the folded codes, at an index. -/
theorem invF_vec {s : Shape} (y : FVec Ideal s .f32) (j : s.Idx) :
    select (cmpf .oeq y (broadcast s (Scalar.ofBits .f32 0x00000000#32))) (broadcast s (Scalar.ofBits .f32 0x3F800000#32))
      (divf (broadcast s (Scalar.ofBits .f32 0x42FE0000#32)) y) j = invF (y j) := by
  pointwise [invF]
  rw [ofBits_127]

/-- The folded codes, at an index, from the factor there. -/
theorem codeF_vec {s : Shape} (x y : FVec Ideal s .f32) (j : s.Idx) (a : EReal) (h : y j = invF a) :
    fptosi 8 (roundeven (minimumf (broadcast s (Scalar.ofBits .f32 0x42FE0000#32))
      (maximumf (broadcast s (Scalar.ofBits .f32 0xC2FE0000#32)) (mulf x y)))) j = codeF (x j) a := by
  pointwise [codeF]
  rw [ofBits_127, ofBits_neg_127, h]
  rfl

end Cert.Adam
-- ==== Proof.Update.lean ====
/- The arithmetic of the update over the extended reals: the folded step against AdamW's, at one element. Nothing here is
   about a program. -/
module

public import proofs.«01_k».proof.Proof.Scalars
public import Mathlib.Analysis.SpecialFunctions.Pow.Real

@[expose] public section

noncomputable section

namespace Cert.Adam

open Idealize.ShloMosaic

theorem ofBits_tiny : Ideal.ofBits .f32 0x00800000#32 = (((2 : ℝ) ^ (-126 : ℤ) : ℝ) : EReal) := by
  simp [Ideal.ofBits, Ideal.ieee, -EReal.coe_mul]; norm_num

theorem ofBits_eps : Ideal.ofBits .f32 0x322BCC77#32 = ((11258999 / 1125899906842624 : ℝ) : EReal) := by
  simp [Ideal.ofBits, Ideal.ieee, -EReal.coe_mul]; norm_num

/-- `√((1 - e^(t·l)) / c)`: what the folded form puts in place of the second moment's bias correction. -/
def biasRoot (l c : ℝ) (t : EReal) : EReal :=
  Ideal.sqrt (Ideal.div (1 - Ideal.exp (t * (l : EReal))) (c : EReal))

/-- The folded step, from the folded first moment `x`, the folded second moment `y` and the parameter `p`. -/
def deltaF (g w e tiny l1 l2 c2 : ℝ) (t x y p : EReal) : EReal :=
  x * Ideal.div 1 (y * Ideal.rsqrt (max y (tiny : EReal)) + (e : EReal) * biasRoot l2 c2 t)
    * Ideal.div ((g : EReal) * biasRoot l2 c2 t) (1 - Ideal.exp (t * (l1 : EReal))) + p * (w : EReal)

/-- AdamW's update as the optimiser states it, from the moments `m` and `v` and the parameter `p`. -/
def deltaQ (b1 b2 nlr wd e : ℝ) (t m v p : EReal) : EReal :=
  (nlr : EReal) * (Ideal.div (Ideal.div m (1 - Ideal.pow (b1 : EReal) t))
      (Ideal.sqrt (Ideal.div v (1 - Ideal.pow (b2 : EReal) t)) + (e : EReal)) + (wd : EReal) * p)

/-- Scaling an affine function of any extended real, its slope positive and everything else finite. -/
theorem mul_affine {a k : ℝ} (ha : a ≠ 0) (hk : 0 < k) (x : EReal) (q : ℝ) :
    (a : EReal) * (x * (k : EReal) + (q : EReal)) = x * ((a * k : ℝ) : EReal) + ((a * q : ℝ) : EReal) := by
  induction x with
  | coe x => norm_cast; ring
  | top =>
    rw [EReal.top_mul_coe_of_pos hk, EReal.top_add_coe]
    rcases lt_or_gt_of_ne ha with h | h
    · rw [EReal.coe_mul_top_of_neg h, EReal.top_mul_coe_of_neg (mul_neg_of_neg_of_pos h hk), EReal.bot_add]
    · rw [EReal.coe_mul_top_of_pos h, EReal.top_mul_coe_of_pos (mul_pos h hk), EReal.top_add_coe]
  | bot =>
    rw [EReal.bot_mul_coe_of_pos hk, EReal.bot_add]
    rcases lt_or_gt_of_ne ha with h | h
    · rw [EReal.coe_mul_bot_of_neg h, EReal.bot_mul_coe_of_neg (mul_neg_of_neg_of_pos h hk), EReal.top_add_coe]
    · rw [EReal.coe_mul_bot_of_pos h, EReal.bot_mul_coe_of_pos (mul_pos h hk), EReal.bot_add]

/-- The exponential of a multiple of a logarithm is the power. -/
theorem exp_mul_log {b : ℝ} (hb : 0 < b) (t : ℝ) :
    Ideal.exp ((t : EReal) * ((Real.log b : ℝ) : EReal)) = ((b ^ t : ℝ) : EReal) := by
  rw [← EReal.coe_mul, Ideal.exp_coe, Real.rpow_def_of_pos hb, mul_comm]

theorem one_sub_coe (q : ℝ) : (1 : EReal) - (q : EReal) = ((1 - q : ℝ) : EReal) := by
  rw [EReal.coe_sub, EReal.coe_one]

/-- A value times the reciprocal root of its maximum with `tiny` is its root, where it is zero or at least `tiny`. -/
theorem root_eq {y tiny : ℝ} (ht : 0 < tiny) (hy : y = 0 ∨ tiny ≤ y) :
    (y : EReal) * Ideal.rsqrt (max (y : EReal) (tiny : EReal)) = ((Real.sqrt y : ℝ) : EReal) := by
  rcases hy with rfl | hy
  · simp
  · have hy0 : 0 < y := ht.trans_le hy
    have hs : Real.sqrt y ≠ 0 := (Real.sqrt_pos.2 hy0).ne'
    rw [max_eq_left (EReal.coe_le_coe_iff.2 hy), Ideal.rsqrt_coe, if_neg hy0.not_gt, if_neg hy0.ne', ← EReal.coe_mul]
    congr 1
    rw [← div_eq_mul_inv, div_eq_iff hs, Real.mul_self_sqrt hy0.le]

/-- THE UPDATE: from `m = c₁·x` and `v = c₂·y`, at a step count of at least one, a finite parameter and a second
    moment `y` that is zero or at least `tiny`, AdamW's update is the folded step. -/
theorem deltaQ_eq {b1 b2 c1 c2 nlr wd e tiny : ℝ} (hb1 : 0 < b1) (hb1' : b1 < 1) (hb2 : 0 < b2) (hb2' : b2 < 1)
    (hc1 : 0 < c1) (hc2 : 0 < c2) (hlr : nlr < 0) (he : 0 < e) (htiny : 0 < tiny)
    {t y p : ℝ} (ht : 1 ≤ t) (hy : y = 0 ∨ tiny ≤ y) (x : EReal) :
    deltaQ b1 b2 nlr wd e (t : EReal) ((c1 : EReal) * x) ((c2 : EReal) * (y : EReal)) (p : EReal)
      = deltaF (nlr * c1) (nlr * wd) e tiny (Real.log b1) (Real.log b2) c2 (t : EReal) x (y : EReal) (p : EReal) := by
  have hy0 : 0 ≤ y := by rcases hy with rfl | hy <;> linarith
  have ht0 : 0 < t := by linarith
  have hq1 : 0 < 1 - b1 ^ t := by have := Real.rpow_lt_one hb1.le hb1' ht0; linarith
  have hq2 : 0 < 1 - b2 ^ t := by have := Real.rpow_lt_one hb2.le hb2' ht0; linarith
  have hR0 : 0 < (1 - b2 ^ t) / c2 := div_pos hq2 hc2
  set R : ℝ := Real.sqrt ((1 - b2 ^ t) / c2) with hR
  have hRpos : 0 < R := Real.sqrt_pos.2 hR0
  have hroot : biasRoot (Real.log b2) c2 (t : EReal) = (R : EReal) := by
    unfold biasRoot
    rw [exp_mul_log hb2, one_sub_coe, Ideal.div_coe hc2.ne', ← EReal.coe_mul, mul_one_div, Ideal.sqrt_coe,
      if_neg hR0.not_gt]
  have hD : 0 < Real.sqrt y + e * R := by have := Real.sqrt_nonneg y; have := mul_pos he hRpos; linarith
  -- the folded side is `x` times a real number, plus a real number
  have hF : deltaF (nlr * c1) (nlr * wd) e tiny (Real.log b1) (Real.log b2) c2 (t : EReal) x (y : EReal) (p : EReal)
      = x * ((1 / (Real.sqrt y + e * R) * (nlr * c1 * R * (1 / (1 - b1 ^ t))) : ℝ) : EReal)
        + ((p * (nlr * wd) : ℝ) : EReal) := by
    unfold deltaF
    rw [hroot, root_eq htiny hy, exp_mul_log hb1, one_sub_coe, ← EReal.coe_mul, ← EReal.coe_add, Ideal.div_coe hD.ne',
      ← EReal.coe_mul, Ideal.div_coe hq1.ne', one_mul, mul_assoc x, ← EReal.coe_mul, ← EReal.coe_mul, ← EReal.coe_mul]
  -- and so is the optimiser's
  have hv : Real.sqrt (c2 * y * (1 / (1 - b2 ^ t))) = Real.sqrt y / R := by
    rw [hR, ← Real.sqrt_div hy0]
    congr 1
    field_simp
  have hv0 : ¬ c2 * y * (1 / (1 - b2 ^ t)) < 0 := not_lt.2 (by positivity)
  have hE : 0 < Real.sqrt y / R + e := by have := div_nonneg (Real.sqrt_nonneg y) hRpos.le; linarith
  have hpow : ∀ b : ℝ, Ideal.pow (b : EReal) (t : EReal) = ((b ^ t : ℝ) : EReal) := fun b => Ideal.pow_coe_coe b t
  have hQ : deltaQ b1 b2 nlr wd e (t : EReal) ((c1 : EReal) * x) ((c2 : EReal) * (y : EReal)) (p : EReal)
      = (nlr : EReal) * (x * ((c1 * (1 / (1 - b1 ^ t)) * (1 / (Real.sqrt y / R + e)) : ℝ) : EReal)
          + ((wd * p : ℝ) : EReal)) := by
    unfold deltaQ
    rw [hpow, hpow, one_sub_coe, one_sub_coe, Ideal.div_coe hq1.ne', Ideal.div_coe hq2.ne', ← EReal.coe_mul,
      ← EReal.coe_mul, Ideal.sqrt_coe, if_neg hv0, hv, ← EReal.coe_add, Ideal.div_coe hE.ne', ← EReal.coe_mul,
      mul_comm (c1 : EReal) x, mul_assoc x, mul_assoc x, ← EReal.coe_mul, ← EReal.coe_mul]
  rw [hQ, hF, mul_affine hlr.ne (by positivity)]
  have h1 : nlr * (c1 * (1 / (1 - b1 ^ t)) * (1 / (Real.sqrt y / R + e)))
      = 1 / (Real.sqrt y + e * R) * (nlr * c1 * R * (1 / (1 - b1 ^ t))) := by
    have := hRpos.ne'; have := hq1.ne'; have := hD.ne'; have := hE.ne'
    field_simp
  have h2 : nlr * (wd * p) = p * (nlr * wd) := by ring
  rw [h1, h2]

end Cert.Adam
-- ==== Proof.Chunk.lean ====
/- What one trip of the kernel computes on its 128 × 128 chunk, read at an index, as the functions of Scalars.lean and
   Update.lean: the folded moments, the step, the scales and the codes. -/
module

public import proofs.«01_k».proof.Proof.Gen.KernelIdeal.Skeleton
public import proofs.«01_k».proof.Proof.Reductions
public import proofs.«01_k».proof.Proof.Update

@[expose] public section

noncomputable section

namespace Cert.KernelIdeal.Gen

open Idealize.ShloMosaic Idealize.SL.Sem Cert.Adam

/-! ### The named constants -/

theorem named_b1c1 : Named.named (F := Ideal) κ "b1_over_c1" (φ := .f32) 0x41100000#32 = ((120795952 / 13421773 : ℝ) : EReal) := rfl
theorem named_b2c2 : Named.named (F := Ideal) κ "b2_over_c2" (φ := .f32) 0x4479BFFF#32 = ((8581344768 / 8589935 : ℝ) : EReal) := rfl
theorem named_logb1 : Named.named (F := Ideal) κ "log_b1" (φ := .f32) 0xBDD7C745#32 = ((Real.log (7549747 / 8388608) : ℝ) : EReal) := rfl
theorem named_logb2 : Named.named (F := Ideal) κ "log_b2" (φ := .f32) 0xBA8322CA#32 = ((Real.log (16760439 / 16777216) : ℝ) : EReal) := rfl
theorem named_lrc1 : Named.named (F := Ideal) κ "neg_lr_c1" (φ := .f32) 0xB8D1B718#32 = ((-13421773 / 134217728000 : ℝ) : EReal) := rfl
theorem named_lrwd : Named.named (F := Ideal) κ "neg_lr_wd" (φ := .f32) 0xB727C5AC#32 = ((-1 / 100000 : ℝ) : EReal) := rfl

/-! ### The chunk -/

/-- The folded first moment. -/
theorem mm_apply (g : Vec Ideal S128x128 .bf16) (mc : Vec Ideal S128x128 .i8) (ms : Vec Ideal S1x128 .f32) (r l : Fin 128) :
    k0_pay5 g mc ms (ix2 r l) = folded (120795952 / 13421773) (code (mc (ix2 r l))) (ms (ix2 0 l)) (g (ix2 r l)) := by
  pointwise [k0_pay5, k0_pay4]
  rw [named_b1c1]; rfl

/-- The folded second moment. -/
theorem vv_apply (g : Vec Ideal S128x128 .bf16) (vc : Vec Ideal S128x128 .i8) (vs : Vec Ideal S1x128 .f32) (r l : Fin 128) :
    k0_pay6 g vc vs (ix2 r l)
      = folded (8581344768 / 8589935) (code (vc (ix2 r l))) (vs (ix2 0 l)) (g (ix2 r l) * g (ix2 r l)) := by
  pointwise [k0_pay6, k0_pay4]
  rw [named_b2c2]; rfl

/-- The step. -/
theorem delta_apply (t : Elt Ideal .i32) (p : Vec Ideal S128x128 .f32) (g : Vec Ideal S128x128 .bf16)
    (mc : Vec Ideal S128x128 .i8) (ms : Vec Ideal S1x128 .f32) (vc : Vec Ideal S128x128 .i8) (vs : Vec Ideal S1x128 .f32)
    (r l : Fin 128) :
    k0_pay9 (k0_pay7 (k0_pay126 t) (k0_pay127 t) g mc ms vc vs) (k0_pay8 p) (ix2 r l)
      = deltaF (-13421773 / 134217728000) (-1 / 100000) (11258999 / 1125899906842624) ((2 : ℝ) ^ (-126 : ℤ))
          (Real.log (7549747 / 8388608)) (Real.log (16760439 / 16777216)) (8589935 / 8589934592)
          ((t.toInt : ℝ) : EReal) (k0_pay5 g mc ms (ix2 r l)) (k0_pay6 g vc vs (ix2 r l)) (p (ix2 r l)) := by
  pointwise [k0_pay9, k0_pay8, k0_pay7, k0_pay126, k0_pay127, k0_pay125, k0_pay124]
  rw [named_logb1, named_logb2, named_lrc1, named_lrwd, ofBits_c2, ofBits_eps, ofBits_tiny]; rfl

/-- A block's largest magnitude. -/
theorem amax_apply (x : FVec Ideal S128x128 .f32) (l : Fin 128) :
    k0_pay10 x (ix2 0 l) = amax fun r => x (ix2 r l) := by
  rw [← amax_axis0 x reduces_S128x128_S128 (.inl rfl) rfl l]
  unfold k0_pay10
  generalize (multiReduction .maximumf [0] S128 (absf x) 0xFF800000#32 reduces_S128x128_S128 (.inl rfl) rfl : FVec Ideal S128 .f32) = y
  pointwise

/-- A first moment's scale. -/
theorem m_scale_apply (x : FVec Ideal S128x128 .f32) (l : Fin 128) :
    k0_pay12 x (ix2 0 l) = scaleF (13421773 / 17045651456) (amax fun r => x (ix2 r l)) := by
  rw [← amax_apply]
  exact scaleF_vec (k0_pay10 x) _ (ix2 0 l)

/-- A second moment's scale. -/
theorem v_scale_apply (x : FVec Ideal S128x128 .f32) (l : Fin 128) :
    k0_pay16 x (ix2 0 l) = scaleF (8589935 / 1090921693184) (amax fun r => x (ix2 r l)) := by
  rw [← amax_apply]
  exact scaleF_vec (k0_pay10 x) _ (ix2 0 l)

/-- A row of 128, repeated over 128 rows. -/
theorem repeat_apply (s : FVec Ideal S1x128 .f32) (r l : Fin 128) :
    broadcastTo S128x128 s broadcasts_S1x128_S128x128 (ix2 r l) = s (ix2 0 l) := by
  pointwise

/-- The codes. -/
theorem codes_apply (x : FVec Ideal S128x128 .f32) (r l : Fin 128) :
    k0_pay13 x (ix2 r l) = codeF (x (ix2 r l)) (amax fun r => x (ix2 r l)) := by
  rw [← amax_apply]
  exact codeF_vec x _ (ix2 r l) _ ((repeat_apply _ r l).trans (invF_vec (k0_pay10 x) (ix2 0 l)))

/-- The second moment's codes are computed as the first's. -/
theorem v_codes_eq (x : FVec Ideal S128x128 .f32) : k0_pay128 x (k0_pay15 x) (k0_pay17 x) k0_pay18 = k0_pay13 x := rfl

end Cert.KernelIdeal.Gen
-- ==== Proof.Block.lean ====
/- What the kernel writes to its five blocks: each trip's pieces are the restrictions, to that trip's chunk, of five
   functions of the whole blocks. -/
module

public import proofs.«01_k».proof.Proof.Gen.KernelIdeal.Loops
public import proofs.«01_k».proof.Proof.Chunk

@[expose] public section

noncomputable section

namespace Cert.KernelIdeal.Gen

open Idealize.ShloMosaic Idealize.SL.Sem Idealize.ShloMosaic.Tactic Cert.Adam

/-! ### The five functions of a block -/

/-- The block of 128 rows that a row of the 1024 is in. -/
abbrev blkB (i : Fin 1024) : Fin 8 := ⟨i.val / 128, by omega⟩

/-- Row `r` of block `b`. -/
abbrev rowB (b : Fin 8) (r : Fin 128) : Fin 1024 := ⟨b.val * 128 + r.val, by omega⟩

/-- The folded first moment over a block. -/
def mmB (g : Vec Ideal S1024x512 .bf16) (mc : Vec Ideal S1024x512 .i8) (ms : Vec Ideal S8x512 .f32)
    (i : Fin 1024) (c : Fin 512) : EReal :=
  folded (120795952 / 13421773) (code (mc (ix2 i c))) (ms (ix2 (blkB i) c)) (g (ix2 i c))

/-- The folded second moment over a block. -/
def vvB (g : Vec Ideal S1024x512 .bf16) (vc : Vec Ideal S1024x512 .i8) (vs : Vec Ideal S8x512 .f32)
    (i : Fin 1024) (c : Fin 512) : EReal :=
  folded (8581344768 / 8589935) (code (vc (ix2 i c))) (vs (ix2 (blkB i) c)) (g (ix2 i c) * g (ix2 i c))

/-- The step over a block, from the two folded moments. -/
def deltaB (t : BitVec 32) (p : Vec Ideal S1024x512 .f32) (m v : Fin 1024 → Fin 512 → EReal) : Vec Ideal S1024x512 .f32 :=
  fun y => deltaF (-13421773 / 134217728000) (-1 / 100000) (11258999 / 1125899906842624) ((2 : ℝ) ^ (-126 : ℤ))
    (Real.log (7549747 / 8388608)) (Real.log (16760439 / 16777216)) (8589935 / 8589934592)
    ((t.toInt : ℝ) : EReal) (m (y 0) (y 1)) (v (y 0) (y 1)) (p y)

/-- The codes of a folded moment over a block. -/
def codesB (f : Fin 1024 → Fin 512 → EReal) : Vec Ideal S1024x512 .i8 :=
  fun y => codeF (f (y 0) (y 1)) (amax fun r => f (rowB (blkB (y 0)) r) (y 1))

/-- The scales of a folded moment over a block. -/
def scalesB (k : ℝ) (f : Fin 1024 → Fin 512 → EReal) : Vec Ideal S8x512 .f32 :=
  fun z => scaleF k (amax fun r => f (rowB (z 0) r) (z 1))

/-! ### Pieces that agree with them -/

/-- The lists of pieces that a run writes to the five outputs. -/
abbrev Lists : Type :=
  List (View.Piece (Elt Ideal) S1024x512 .f32) × List (View.Piece (Elt Ideal) S1024x512 .i8)
    × List (View.Piece (Elt Ideal) S8x512 .f32) × List (View.Piece (Elt Ideal) S1024x512 .i8)
    × List (View.Piece (Elt Ideal) S8x512 .f32)

/-- Every piece of a list holds the restriction of `G`. -/
def Agree {s : Shape} {e : EltTy} (G : s.Idx → Elt Ideal e) (L : List (View.Piece (Elt Ideal) s e)) : Prop :=
  ∀ p ∈ L, ∀ x : p.1.shape.Idx, p.2 x = G (p.1.emb x)

theorem Agree.nil {s : Shape} {e : EltTy} (G : s.Idx → Elt Ideal e) : Agree G [] := by
  intro p hp; cases hp

theorem Agree.append {s : Shape} {e : EltTy} {G : s.Idx → Elt Ideal e} {L L' : List (View.Piece (Elt Ideal) s e)}
    (h : Agree G L) (h' : Agree G L') : Agree G (L ++ L') := by
  intro p hp
  rcases List.mem_append.1 hp with hp | hp
  exacts [h p hp, h' p hp]

theorem Agree.single {s : Shape} {e : EltTy} {G : s.Idx → Elt Ideal e} (p : View.Piece (Elt Ideal) s e)
    (h : ∀ x : p.1.shape.Idx, p.2 x = G (p.1.emb x)) : Agree G [p] := by
  intro q hq
  obtain rfl := List.mem_singleton.1 hq
  exact h

/-- The five lists hold the restrictions of the five functions of the input blocks. -/
structure Good (t : BitVec 32) (p : Vec Ideal S1024x512 .f32) (g : Vec Ideal S1024x512 .bf16)
    (mc : Vec Ideal S1024x512 .i8) (ms : Vec Ideal S8x512 .f32) (vc : Vec Ideal S1024x512 .i8) (vs : Vec Ideal S8x512 .f32)
    (L : Lists) : Prop where
  delta : Agree (deltaB t p (mmB g mc ms) (vvB g vc vs)) L.1
  mCodes : Agree (codesB (mmB g mc ms)) L.2.1
  mScales : Agree (scalesB (13421773 / 17045651456) (mmB g mc ms)) L.2.2.1
  vCodes : Agree (codesB (vvB g vc vs)) L.2.2.2.1
  vScales : Agree (scalesB (8589935 / 1090921693184) (vvB g vc vs)) L.2.2.2.2

variable {t : BitVec 32} {p : Vec Ideal S1024x512 .f32} {g : Vec Ideal S1024x512 .bf16}
  {mc : Vec Ideal S1024x512 .i8} {ms : Vec Ideal S8x512 .f32} {vc : Vec Ideal S1024x512 .i8} {vs : Vec Ideal S8x512 .f32}

theorem Good.nil : Good t p g mc ms vc vs ([], [], [], [], []) :=
  ⟨Agree.nil _, Agree.nil _, Agree.nil _, Agree.nil _, Agree.nil _⟩

theorem Good.append {L L' : Lists} (h : Good t p g mc ms vc vs L) (h' : Good t p g mc ms vc vs L') :
    Good t p g mc ms vc vs (L.1 ++ L'.1, L.2.1 ++ L'.2.1, L.2.2.1 ++ L'.2.2.1, L.2.2.2.1 ++ L'.2.2.2.1, L.2.2.2.2 ++ L'.2.2.2.2) :=
  ⟨h.delta.append h'.delta, h.mCodes.append h'.mCodes, h.mScales.append h'.mScales, h.vCodes.append h'.vCodes,
    h.vScales.append h'.vScales⟩

/-- A sequence of lists that starts empty and grows by good trips is good at every length up to the trips' number. -/
theorem Good.iterate {n : ℕ} (trip : Fin n → Lists) (L : ℕ → Lists) (h0 : L 0 = ([], [], [], [], []))
    (hs : ∀ k : Fin n, L (k.val + 1) = ((trip k).1 ++ (L k.val).1, (trip k).2.1 ++ (L k.val).2.1,
      (trip k).2.2.1 ++ (L k.val).2.2.1, (trip k).2.2.2.1 ++ (L k.val).2.2.2.1, (trip k).2.2.2.2 ++ (L k.val).2.2.2.2))
    (ht : ∀ k, Good t p g mc ms vc vs (trip k)) : ∀ k ≤ n, Good t p g mc ms vc vs (L k)
  | 0, _ => by rw [h0]; exact Good.nil
  | k + 1, hk => by
    rw [hs ⟨k, hk⟩]
    exact (ht _).append (Good.iterate trip L h0 hs ht k (by omega))

/-! ### One trip -/

section

variable {b : ℕ} (hb : b < 8) {o : ℕ} (ho : o + 128 ≤ 512) {off1 off2 : Fin 2 → ℕ}
  (h1 : off1 = ![128 * b, o]) (h2 : off2 = ![b, o])
  (inb1 : ∀ a, off1 a + S128x128.size a ≤ S1024x512.size a) (inb2 : ∀ a, off2 a + S1x128.size a ≤ S8x512.size a)

include h1 h2 in
/-- A row of a chunk is in the chunk's block, at the chunk's columns. -/
theorem emb_big (r l : Fin 128) :
    (Rect.unit (s := S1024x512) off1 S128x128.size inb1).emb (ix2 r l)
      = ix2 (rowB ⟨b, hb⟩ r) (⟨o + l.val, by omega⟩ : Fin 512) := by
  subst h1 h2
  funext d
  apply Fin.ext
  match d with
  | ⟨0, _⟩ => show 128 * b + 1 * r.val = b * 128 + r.val; omega
  | ⟨1, _⟩ => show o + 1 * l.val = o + l.val; omega

include h1 h2 in
theorem emb_row (l : Fin 128) :
    (Rect.unit (s := S8x512) off2 S1x128.size inb2).emb (ix2 0 l) = ix2 ⟨b, hb⟩ (⟨o + l.val, by omega⟩ : Fin 512) := by
  subst h1 h2
  funext d
  apply Fin.ext
  match d with
  | ⟨0, _⟩ => show b + 1 * 0 = b; omega
  | ⟨1, _⟩ => show o + 1 * l.val = o + l.val; omega

theorem forall_big {P : S128x128.Idx → Prop} (h : ∀ r l : Fin 128, P (ix2 r l)) (x : S128x128.Idx) : P x := by
  rw [eq_ix2 x]; exact h _ _

theorem forall_row {P : S1x128.Idx → Prop} (h : ∀ l : Fin 128, P (ix2 0 l)) (x : S1x128.Idx) : P x := by
  rw [eq_ix2 x, show x 0 = (0 : Fin 1) from Subsingleton.elim (α := Fin 1) _ _]; exact h _

theorem blkB_rowB (b : Fin 8) (r : Fin 128) : blkB (rowB b r) = b := Fin.ext (by show (b.val * 128 + r.val) / 128 = b.val; omega)

variable {cp : Vec Ideal S128x128 .f32} {cg : Vec Ideal S128x128 .bf16} {cmc : Vec Ideal S128x128 .i8}
  {cms : Vec Ideal S1x128 .f32} {cvc : Vec Ideal S128x128 .i8} {cvs : Vec Ideal S1x128 .f32}

set_option maxRecDepth 20000 in
include hb ho h1 h2 in
/-- One trip's pieces agree with the five functions: the chunk's columns of a block of 128 rows hold what the functions
    say of the whole block's, because a block's scale is taken down a column of those 128 rows. -/
theorem Good.chunk (hp : ∀ x, cp x = p ((Rect.unit (s := S1024x512) off1 S128x128.size inb1).emb x))
    (hg : ∀ x, cg x = g ((Rect.unit (s := S1024x512) off1 S128x128.size inb1).emb x))
    (hmc : ∀ x, cmc x = mc ((Rect.unit (s := S1024x512) off1 S128x128.size inb1).emb x))
    (hms : ∀ x, cms x = ms ((Rect.unit (s := S8x512) off2 S1x128.size inb2).emb x))
    (hvc : ∀ x, cvc x = vc ((Rect.unit (s := S1024x512) off1 S128x128.size inb1).emb x))
    (hvs : ∀ x, cvs x = vs ((Rect.unit (s := S8x512) off2 S1x128.size inb2).emb x)) :
    Good t p g mc ms vc vs
      ([⟨Rect.unit (s := S1024x512) off1 S128x128.size inb1,
          k0_pay9 (k0_pay7 (k0_pay126 t) (k0_pay127 t) cg cmc cms cvc cvs) (k0_pay8 cp)⟩],
       [⟨Rect.unit (s := S1024x512) off1 S128x128.size inb1, k0_pay13 (k0_pay5 cg cmc cms)⟩],
       [⟨Rect.unit (s := S8x512) off2 S1x128.size inb2, k0_pay12 (k0_pay5 cg cmc cms)⟩],
       [⟨Rect.unit (s := S1024x512) off1 S128x128.size inb1, k0_pay128 (k0_pay6 cg cvc cvs) (k0_pay15 (k0_pay6 cg cvc cvs))
          (k0_pay17 (k0_pay6 cg cvc cvs)) k0_pay18⟩],
       [⟨Rect.unit (s := S8x512) off2 S1x128.size inb2, k0_pay16 (k0_pay6 cg cvc cvs)⟩]) := by
  have hm : ∀ r l : Fin 128, k0_pay5 cg cmc cms (ix2 r l) = mmB g mc ms (rowB ⟨b, hb⟩ r) ⟨o + l.val, by omega⟩ := by
    intro r l
    rw [mm_apply, hg, hmc, hms, emb_big hb ho h1 h2, emb_row hb ho h1 h2, mmB, blkB_rowB]
  have hv : ∀ r l : Fin 128, k0_pay6 cg cvc cvs (ix2 r l) = vvB g vc vs (rowB ⟨b, hb⟩ r) ⟨o + l.val, by omega⟩ := by
    intro r l
    rw [vv_apply, hg, hvc, hvs, emb_big hb ho h1 h2, emb_row hb ho h1 h2, vvB, blkB_rowB]
  have hms' : ∀ l : Fin 128, k0_pay12 (F := Ideal) (k0_pay5 cg cmc cms) (ix2 0 l)
      = scalesB (13421773 / 17045651456) (mmB g mc ms) ((Rect.unit (s := S8x512) off2 S1x128.size inb2).emb (ix2 0 l)) := by
    intro l
    rw [m_scale_apply, emb_row hb ho h1 h2]
    simp only [hm]
    rfl
  have hvs' : ∀ l : Fin 128, k0_pay16 (F := Ideal) (k0_pay6 cg cvc cvs) (ix2 0 l)
      = scalesB (8589935 / 1090921693184) (vvB g vc vs) ((Rect.unit (s := S8x512) off2 S1x128.size inb2).emb (ix2 0 l)) := by
    intro l
    rw [v_scale_apply, emb_row hb ho h1 h2]
    simp only [hv]
    rfl
  have hmx : ∀ x : S1x128.Idx, k0_pay12 (F := Ideal) (k0_pay5 cg cmc cms) x
      = scalesB (13421773 / 17045651456) (mmB g mc ms) ((Rect.unit (s := S8x512) off2 S1x128.size inb2).emb x) :=
    forall_row hms'
  have hvx : ∀ x : S1x128.Idx, k0_pay16 (F := Ideal) (k0_pay6 cg cvc cvs) x
      = scalesB (8589935 / 1090921693184) (vvB g vc vs) ((Rect.unit (s := S8x512) off2 S1x128.size inb2).emb x) :=
    forall_row hvs'
  rw [v_codes_eq]
  refine ⟨Agree.single _ (forall_big fun r l => ?_), Agree.single _ (forall_big fun r l => ?_),
    Agree.single _ hmx, Agree.single _ (forall_big fun r l => ?_),
    Agree.single _ hvx⟩
  · show k0_pay9 (F := Ideal) _ _ (ix2 r l) = deltaB t p _ _ ((Rect.unit (s := S1024x512) off1 S128x128.size inb1).emb (ix2 r l))
    rw [delta_apply, hm, hv, hp, emb_big hb ho h1 h2]
    rfl
  · show k0_pay13 (F := Ideal) _ (ix2 r l) = codesB _ ((Rect.unit (s := S1024x512) off1 S128x128.size inb1).emb (ix2 r l))
    rw [codes_apply, emb_big hb ho h1 h2]
    simp only [hm]
    show _ = codeF _ (amax fun r' => mmB g mc ms (rowB (blkB (rowB ⟨b, hb⟩ r)) r') ⟨o + l.val, _⟩)
    rw [blkB_rowB]
    rfl
  · show k0_pay13 (F := Ideal) _ (ix2 r l) = codesB _ ((Rect.unit (s := S1024x512) off1 S128x128.size inb1).emb (ix2 r l))
    rw [codes_apply, emb_big hb ho h1 h2]
    simp only [hv]
    show _ = codeF _ (amax fun r' => vvB g vc vs (rowB (blkB (rowB ⟨b, hb⟩ r)) r') ⟨o + l.val, _⟩)
    rw [blkB_rowB]
    rfl

end

end Cert.KernelIdeal.Gen
-- ==== Proof.Trips.lean ====
/- The eight loops of the kernel: every trip of every loop is one chunk of `Block`, so the pieces of the eight loops
   agree with the five functions of a block. -/
module

public import proofs.«01_k».proof.Proof.Block

@[expose] public section

noncomputable section

namespace Cert.KernelIdeal.Gen

open Idealize.ShloMosaic Idealize.SL.Sem Idealize.ShloMosaic.Tactic Cert.Adam

variable (𝒱 : Variants) (c : Dev nD) (bd : Option 𝒱.V) (i : grid0.Coords) (arg2 : Memref sig .tc .smem S1 .i32)
  (harg2 : arg2.IsWhole) (arg3 : Memref sig .tc .vmem S1024x512 .f32) (harg3 : arg3.IsWhole)
  (arg4 : Memref sig .tc .vmem S1024x512 .bf16) (harg4 : arg4.IsWhole)
  (arg5 : Memref sig .tc .vmem S1024x512 .i8) (harg5 : arg5.IsWhole) (arg6 : Memref sig .tc .vmem S8x512 .f32)
  (harg6 : arg6.IsWhole) (arg7 : Memref sig .tc .vmem S1024x512 .i8) (harg7 : arg7.IsWhole)
  (arg8 : Memref sig .tc .vmem S8x512 .f32) (harg8 : arg8.IsWhole) (arg9 : Memref sig .tc .vmem S1024x512 .f32)
  (harg9 : arg9.IsWhole) (arg10 : Memref sig .tc .vmem S1024x512 .i8) (harg10 : arg10.IsWhole)
  (arg11 : Memref sig .tc .vmem S8x512 .f32) (harg11 : arg11.IsWhole)
  (arg12 : Memref sig .tc .vmem S1024x512 .i8) (harg12 : arg12.IsWhole)
  (arg13 : Memref sig .tc .vmem S8x512 .f32) (harg13 : arg13.IsWhole)
  (X_arg3 : BufTy.Contents (Elt Ideal) arg3.view.ty) (X_arg4 : BufTy.Contents (Elt Ideal) arg4.view.ty)
  (X_arg5 : BufTy.Contents (Elt Ideal) arg5.view.ty) (X_arg6 : BufTy.Contents (Elt Ideal) arg6.view.ty)
  (X_arg7 : BufTy.Contents (Elt Ideal) arg7.view.ty) (X_arg8 : BufTy.Contents (Elt Ideal) arg8.view.ty) (t : BitVec 32)

/-- Lists that agree with the five functions of the blocks that the input memrefs hold. -/
abbrev Fine (L : Lists) : Prop :=
  Good t (arg3.view.read (Elt Ideal) X_arg3) (arg4.view.read (Elt Ideal) X_arg4) (arg5.view.read (Elt Ideal) X_arg5)
    (arg6.view.read (Elt Ideal) X_arg6) (arg7.view.read (Elt Ideal) X_arg7) (arg8.view.read (Elt Ideal) X_arg8) L

/-- The first loop, which makes block 0 of 128 rows. -/
theorem fine_t1 : Fine arg3 arg4 arg5 arg6 arg7 arg8 X_arg3 X_arg4 X_arg5 X_arg6 X_arg7 X_arg8 t
    (pb_k0_t1 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k0_t1_loop.trips) := by
  refine Good.iterate (fun k => tripL_k0_t1 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k) _ rfl (fun k => pb_k0_t1_succ ..) (fun k => ?_) _ le_rfl
  have hk : k.val < 4 := Nat.lt_of_lt_of_le k.isLt k0_t1_abs.2.1
  unfold tripL_k0_t1 trip_k0_t1
  sl_unfold_run_names
  exact Good.chunk (b := 0) (by decide) (o := 128 * k.val) (by omega) (k0_off1_eq k) (k0_off2_eq k) _ _
    (fun _ => rfl) (fun _ => rfl) (fun _ => rfl) (fun _ => rfl) (fun _ => rfl) (fun _ => rfl)

/-- The second loop, which makes block 1 of 128 rows. -/
theorem fine_t2 : Fine arg3 arg4 arg5 arg6 arg7 arg8 X_arg3 X_arg4 X_arg5 X_arg6 X_arg7 X_arg8 t
    (pb_k0_t2 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k0_t2_loop.trips) := by
  refine Good.iterate (fun k => tripL_k0_t2 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k) _ rfl (fun k => pb_k0_t2_succ ..) (fun k => ?_) _ le_rfl
  have hk : k.val < 4 := Nat.lt_of_lt_of_le k.isLt k0_t2_abs.2.1
  unfold tripL_k0_t2 trip_k0_t2
  sl_unfold_run_names
  exact Good.chunk (b := 1) (by decide) (o := 128 * k.val) (by omega) (k0_off3_eq k) (k0_off4_eq k) _ _
    (fun _ => rfl) (fun _ => rfl) (fun _ => rfl) (fun _ => rfl) (fun _ => rfl) (fun _ => rfl)

/-- The third loop, which makes block 2 of 128 rows. -/
theorem fine_t3 : Fine arg3 arg4 arg5 arg6 arg7 arg8 X_arg3 X_arg4 X_arg5 X_arg6 X_arg7 X_arg8 t
    (pb_k0_t3 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k0_t3_loop.trips) := by
  refine Good.iterate (fun k => tripL_k0_t3 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k) _ rfl (fun k => pb_k0_t3_succ ..) (fun k => ?_) _ le_rfl
  have hk : k.val < 4 := Nat.lt_of_lt_of_le k.isLt k0_t3_abs.2.1
  unfold tripL_k0_t3 trip_k0_t3
  sl_unfold_run_names
  exact Good.chunk (b := 2) (by decide) (o := 128 * k.val) (by omega) (k0_off5_eq k) (k0_off6_eq k) _ _
    (fun _ => rfl) (fun _ => rfl) (fun _ => rfl) (fun _ => rfl) (fun _ => rfl) (fun _ => rfl)

/-- The fourth loop, which makes block 3 of 128 rows. -/
theorem fine_t4 : Fine arg3 arg4 arg5 arg6 arg7 arg8 X_arg3 X_arg4 X_arg5 X_arg6 X_arg7 X_arg8 t
    (pb_k0_t4 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k0_t4_loop.trips) := by
  refine Good.iterate (fun k => tripL_k0_t4 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k) _ rfl (fun k => pb_k0_t4_succ ..) (fun k => ?_) _ le_rfl
  have hk : k.val < 4 := Nat.lt_of_lt_of_le k.isLt k0_t4_abs.2.1
  unfold tripL_k0_t4 trip_k0_t4
  sl_unfold_run_names
  exact Good.chunk (b := 3) (by decide) (o := 128 * k.val) (by omega) (k0_off7_eq k) (k0_off8_eq k) _ _
    (fun _ => rfl) (fun _ => rfl) (fun _ => rfl) (fun _ => rfl) (fun _ => rfl) (fun _ => rfl)

/-- The fifth loop, which makes block 4 of 128 rows. -/
theorem fine_t5 : Fine arg3 arg4 arg5 arg6 arg7 arg8 X_arg3 X_arg4 X_arg5 X_arg6 X_arg7 X_arg8 t
    (pb_k0_t5 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k0_t5_loop.trips) := by
  refine Good.iterate (fun k => tripL_k0_t5 (F := Ideal) 𝒱 c bd i arg2 harg2 arg3 harg3 arg4 harg4 arg5 harg5 arg6 harg6 arg7 harg7 arg8 harg8 arg9 harg9
      arg10 harg10 arg11 harg11 arg12 harg12 arg13 harg13
      t X_arg3 X_arg4 X_arg5 X_arg6 X_arg7 X_arg8 k) _ rfl (fun k => pb_k0_t5_succ ..) (fun k => ?_) _ le_rfl
  have hk : k.val < 4 := Nat.lt_of_lt_of_le k.isLt k0_t5_abs.2.1
  unfold tripL_k0_t5 trip_k0_t5
  sl_unfold_run_names
  exact Good.chunk (b := 4) (by decide) (o := 128 * k.val) (by omega) (k0_off9_eq k) (k0_off10_eq k) _ _
    (fun _ => rfl) (fun _ => rfl) (fun _ => rfl) (fun _ => rfl) (fun _ => rfl) (fun _ => rfl)

/-- The sixth loop, which makes block 5 of 128 rows. -/
theorem fine_t6 : Fine arg3 arg4 arg5 arg6 arg7 arg8 X_arg3 X_arg4 X_arg5 X_arg6 X_arg7 X_arg8 t
    (pb_k0_t6 (F := Ideal) 𝒱 c bd i arg2 harg2 arg3 harg3 arg4 harg4 arg5 harg5 arg6 harg6 arg7 harg7 arg8 harg8 arg9 harg9
      arg10 harg10 arg11 harg11 arg12 harg12 arg13 harg13
      (k0_pay126 t) (k0_pay127 t) X_arg3 X_arg4 X_arg5 X_arg6 X_arg7 X_arg8 k0_t6_loop.trips) := by
  refine Good.iterate (fun k => tripL_k0_t6 (F := Ideal) 𝒱 c bd i arg2 harg2 arg3 harg3 arg4 harg4 arg5 harg5 arg6 harg6 arg7 harg7 arg8 harg8 arg9 harg9
      arg10 harg10 arg11 harg11 arg12 harg12 arg13 harg13
      (k0_pay126 t) (k0_pay127 t) X_arg3 X_arg4 X_arg5 X_arg6 X_arg7 X_arg8 k) _ rfl (fun k => pb_k0_t6_succ ..) (fun k => ?_) _ le_rfl
  have hk : k.val < 4 := Nat.lt_of_lt_of_le k.isLt k0_t6_abs.2.1
  unfold tripL_k0_t6 trip_k0_t6
  sl_unfold_run_names
  exact Good.chunk (b := 5) (by decide) (o := 128 * k.val) (by omega) (k0_off11_eq k) (k0_off12_eq k) _ _
    (fun _ => rfl) (fun _ => rfl) (fun _ => rfl) (fun _ => rfl) (fun _ => rfl) (fun _ => rfl)

/-- The seventh loop, which makes block 6 of 128 rows. -/
theorem fine_t7 : Fine arg3 arg4 arg5 arg6 arg7 arg8 X_arg3 X_arg4 X_arg5 X_arg6 X_arg7 X_arg8 t
    (pb_k0_t7 (F := Ideal) 𝒱 c bd i arg2 harg2 arg3 harg3 arg4 harg4 arg5 harg5 arg6 harg6 arg7 harg7 arg8 harg8 arg9 harg9
      arg10 harg10 arg11 harg11 arg12 harg12 arg13 harg13
      (k0_pay126 t) (k0_pay127 t) X_arg3 X_arg4 X_arg5 X_arg6 X_arg7 X_arg8 k0_t7_loop.trips) := by
  refine Good.iterate (fun k => tripL_k0_t7 (F := Ideal) 𝒱 c bd i arg2 harg2 arg3 harg3 arg4 harg4 arg5 harg5 arg6 harg6 arg7 harg7 arg8 harg8 arg9 harg9
      arg10 harg10 arg11 harg11 arg12 harg12 arg13 harg13
      (k0_pay126 t) (k0_pay127 t) X_arg3 X_arg4 X_arg5 X_arg6 X_arg7 X_arg8 k) _ rfl (fun k => pb_k0_t7_succ ..) (fun k => ?_) _ le_rfl
  have hk : k.val < 4 := Nat.lt_of_lt_of_le k.isLt k0_t7_abs.2.1
  unfold tripL_k0_t7 trip_k0_t7
  sl_unfold_run_names
  exact Good.chunk (b := 6) (by decide) (o := 128 * k.val) (by omega) (k0_off13_eq k) (k0_off14_eq k) _ _
    (fun _ => rfl) (fun _ => rfl) (fun _ => rfl) (fun _ => rfl) (fun _ => rfl) (fun _ => rfl)

/-- The eighth loop, which makes block 7 of 128 rows. -/
theorem fine_t8 : Fine arg3 arg4 arg5 arg6 arg7 arg8 X_arg3 X_arg4 X_arg5 X_arg6 X_arg7 X_arg8 t
    (pb_k0_t8 (F := Ideal) 𝒱 c bd i arg2 harg2 arg3 harg3 arg4 harg4 arg5 harg5 arg6 harg6 arg7 harg7 arg8 harg8 arg9 harg9
      arg10 harg10 arg11 harg11 arg12 harg12 arg13 harg13
      (k0_pay126 t) (k0_pay127 t) X_arg3 X_arg4 X_arg5 X_arg6 X_arg7 X_arg8 k0_t8_loop.trips) := by
  refine Good.iterate (fun k => tripL_k0_t8 (F := Ideal) 𝒱 c bd i arg2 harg2 arg3 harg3 arg4 harg4 arg5 harg5 arg6 harg6 arg7 harg7 arg8 harg8 arg9 harg9
      arg10 harg10 arg11 harg11 arg12 harg12 arg13 harg13
      (k0_pay126 t) (k0_pay127 t) X_arg3 X_arg4 X_arg5 X_arg6 X_arg7 X_arg8 k) _ rfl (fun k => pb_k0_t8_succ ..) (fun k => ?_) _ le_rfl
  have hk : k.val < 4 := Nat.lt_of_lt_of_le k.isLt k0_t8_abs.2.1
  unfold tripL_k0_t8 trip_k0_t8
  sl_unfold_run_names
  exact Good.chunk (b := 7) (by decide) (o := 128 * k.val) (by omega) (k0_off15_eq k) (k0_off16_eq k) _ _
    (fun _ => rfl) (fun _ => rfl) (fun _ => rfl) (fun _ => rfl) (fun _ => rfl) (fun _ => rfl)

end Cert.KernelIdeal.Gen
-- ==== Proof.Output.lean ====
/- What the kernel leaves in its five output blocks, as functions of its input blocks. -/
module

public import proofs.«01_k».proof.Proof.Gen.KernelIdeal.Frame
public import proofs.«01_k».proof.Proof.Trips

@[expose] public section

noncomputable section

namespace Cert.KernelIdeal.Gen

open Idealize.ShloMosaic Idealize.SL.Sem Idealize.ShloMosaic.Tactic Cert.Adam

variable (c : Dev nD) (i : grid0.Coords) (arg2 : Memref sig .tc .smem S1 .i32)
  (harg2 : arg2.IsWhole) (arg3 : Memref sig .tc .vmem S1024x512 .f32) (harg3 : arg3.IsWhole)
  (arg4 : Memref sig .tc .vmem S1024x512 .bf16) (harg4 : arg4.IsWhole)
  (arg5 : Memref sig .tc .vmem S1024x512 .i8) (harg5 : arg5.IsWhole) (arg6 : Memref sig .tc .vmem S8x512 .f32)
  (harg6 : arg6.IsWhole) (arg7 : Memref sig .tc .vmem S1024x512 .i8) (harg7 : arg7.IsWhole)
  (arg8 : Memref sig .tc .vmem S8x512 .f32) (harg8 : arg8.IsWhole) (arg9 : Memref sig .tc .vmem S1024x512 .f32)
  (harg9 : arg9.IsWhole) (arg10 : Memref sig .tc .vmem S1024x512 .i8) (harg10 : arg10.IsWhole)
  (arg11 : Memref sig .tc .vmem S8x512 .f32) (harg11 : arg11.IsWhole)
  (arg12 : Memref sig .tc .vmem S1024x512 .i8) (harg12 : arg12.IsWhole)
  (arg13 : Memref sig .tc .vmem S8x512 .f32) (harg13 : arg13.IsWhole)
  (x0 : Vec Ideal S1 .i32) (x1 : Vec Ideal S1024x512 .f32) (x2 : Vec Ideal S1024x512 .bf16)
  (x3 : Vec Ideal S1024x512 .i8) (x4 : Vec Ideal S8x512 .f32) (x5 : Vec Ideal S1024x512 .i8) (x6 : Vec Ideal S8x512 .f32)

set_option maxHeartbeats 1000000 in
/-- All the pieces of one block's run agree with the five functions. -/
theorem fine_run : Good (x0 (ix1 0)) x1 x2 x3 x4 x5 x6
    ((kernelRun0_A (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6).1,
     (kernelRun0_A (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6).2.1,
     (kernelRun0_A (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6).2.2.1,
     (kernelRun0_A (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6).2.2.2.1,
     (kernelRun0_A (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6).2.2.2.2.1) := by
  have ht : x0 (ix1 0) = View.readAt (Elt Ideal) arg2.view (Rect.unit ![0] S1.size inb_S1_S1_0).toLoadRect (harg2.unread x0)
      (Shape.Idx.first (by decide)) := by
    rw [View.readAt_apply, harg2.read_unread]
    exact congrArg x0 (funext fun d => match d with | ⟨0, _⟩ => rfl)
  generalize ht0 : View.readAt (Elt Ideal) arg2.view (Rect.unit ![0] S1.size inb_S1_S1_0).toLoadRect (harg2.unread x0)
      (Shape.Idx.first (by decide)) = t0 at ht
  have h1 := fine_t1 Variants.none c none i _ harg2 _ harg3 _ harg4 _ harg5 _ harg6 _ harg7 _ harg8 _ harg9 _ harg10 _ harg11 _ harg12 _ harg13
      (harg3.unread x1) (harg4.unread x2) (harg5.unread x3) (harg6.unread x4) (harg7.unread x5) (harg8.unread x6) t0
  have h2 := fine_t2 Variants.none c none i _ harg2 _ harg3 _ harg4 _ harg5 _ harg6 _ harg7 _ harg8 _ harg9 _ harg10 _ harg11 _ harg12 _ harg13
      (harg3.unread x1) (harg4.unread x2) (harg5.unread x3) (harg6.unread x4) (harg7.unread x5) (harg8.unread x6) t0
  have h3 := fine_t3 Variants.none c none i _ harg2 _ harg3 _ harg4 _ harg5 _ harg6 _ harg7 _ harg8 _ harg9 _ harg10 _ harg11 _ harg12 _ harg13
      (harg3.unread x1) (harg4.unread x2) (harg5.unread x3) (harg6.unread x4) (harg7.unread x5) (harg8.unread x6) t0
  have h4 := fine_t4 Variants.none c none i _ harg2 _ harg3 _ harg4 _ harg5 _ harg6 _ harg7 _ harg8 _ harg9 _ harg10 _ harg11 _ harg12 _ harg13
      (harg3.unread x1) (harg4.unread x2) (harg5.unread x3) (harg6.unread x4) (harg7.unread x5) (harg8.unread x6) t0
  have h5 := fine_t5 Variants.none c none i _ harg2 _ harg3 _ harg4 _ harg5 _ harg6 _ harg7 _ harg8 _ harg9 _ harg10 _ harg11 _ harg12 _ harg13
      (harg3.unread x1) (harg4.unread x2) (harg5.unread x3) (harg6.unread x4) (harg7.unread x5) (harg8.unread x6) t0
  have h6 := fine_t6 Variants.none c none i _ harg2 _ harg3 _ harg4 _ harg5 _ harg6 _ harg7 _ harg8 _ harg9 _ harg10 _ harg11 _ harg12 _ harg13
      (harg3.unread x1) (harg4.unread x2) (harg5.unread x3) (harg6.unread x4) (harg7.unread x5) (harg8.unread x6) t0
  have h7 := fine_t7 Variants.none c none i _ harg2 _ harg3 _ harg4 _ harg5 _ harg6 _ harg7 _ harg8 _ harg9 _ harg10 _ harg11 _ harg12 _ harg13
      (harg3.unread x1) (harg4.unread x2) (harg5.unread x3) (harg6.unread x4) (harg7.unread x5) (harg8.unread x6) t0
  have h8 := fine_t8 Variants.none c none i _ harg2 _ harg3 _ harg4 _ harg5 _ harg6 _ harg7 _ harg8 _ harg9 _ harg10 _ harg11 _ harg12 _ harg13
      (harg3.unread x1) (harg4.unread x2) (harg5.unread x3) (harg6.unread x4) (harg7.unread x5) (harg8.unread x6) t0
  unfold Fine at h1 h2 h3 h4 h5 h6 h7 h8
  rw [harg3.read_unread, harg4.read_unread, harg5.read_unread, harg6.read_unread, harg7.read_unread, harg8.read_unread]
    at h1 h2 h3 h4 h5 h6 h7 h8
  have H := h8.append (h7.append (h6.append (h5.append (h4.append (h3.append (h2.append h1))))))
  rw [ht]
  subst ht0
  exact H

/-- The step, as a block's run leaves it. -/
theorem out7_eq : out0_A_7 (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6
    = deltaB (x0 (ix1 0)) x1 (mmB x2 x3 x4) (vvB x2 x5 x6) :=
  funext fun y => View.read_writes_apply_of_pieces _ _ _ _
    (fine_run c i arg2 harg2 arg3 harg3 arg4 harg4 arg5 harg5 arg6 harg6 arg7 harg7 arg8 harg8 arg9 harg9
      arg10 harg10 arg11 harg11 arg12 harg12 arg13 harg13 x0 x1 x2 x3 x4 x5 x6).delta y
    (cover0_A_7 c i arg2 harg2 arg3 harg3 arg4 harg4 arg5 harg5 arg6 harg6 arg7 harg7 arg8 harg8 arg9 harg9
      arg10 harg10 arg11 harg11 arg12 harg12 arg13 harg13 x0 x1 x2 x3 x4 x5 x6 y)

/-- The first moment's codes, as a block's run leaves it. -/
theorem out8_eq : out0_A_8 (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6
    = codesB (mmB x2 x3 x4) :=
  funext fun y => View.read_writes_apply_of_pieces _ _ _ _
    (fine_run c i arg2 harg2 arg3 harg3 arg4 harg4 arg5 harg5 arg6 harg6 arg7 harg7 arg8 harg8 arg9 harg9
      arg10 harg10 arg11 harg11 arg12 harg12 arg13 harg13 x0 x1 x2 x3 x4 x5 x6).mCodes y
    (cover0_A_8 c i arg2 harg2 arg3 harg3 arg4 harg4 arg5 harg5 arg6 harg6 arg7 harg7 arg8 harg8 arg9 harg9
      arg10 harg10 arg11 harg11 arg12 harg12 arg13 harg13 x0 x1 x2 x3 x4 x5 x6 y)

/-- The first moment's scales, as a block's run leaves it. -/
theorem out9_eq : out0_A_9 (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6
    = scalesB (13421773 / 17045651456) (mmB x2 x3 x4) :=
  funext fun y => View.read_writes_apply_of_pieces _ _ _ _
    (fine_run c i arg2 harg2 arg3 harg3 arg4 harg4 arg5 harg5 arg6 harg6 arg7 harg7 arg8 harg8 arg9 harg9
      arg10 harg10 arg11 harg11 arg12 harg12 arg13 harg13 x0 x1 x2 x3 x4 x5 x6).mScales y
    (cover0_A_9 c i arg2 harg2 arg3 harg3 arg4 harg4 arg5 harg5 arg6 harg6 arg7 harg7 arg8 harg8 arg9 harg9
      arg10 harg10 arg11 harg11 arg12 harg12 arg13 harg13 x0 x1 x2 x3 x4 x5 x6 y)

/-- The second moment's codes, as a block's run leaves it. -/
theorem out10_eq : out0_A_10 (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6
    = codesB (vvB x2 x5 x6) :=
  funext fun y => View.read_writes_apply_of_pieces _ _ _ _
    (fine_run c i arg2 harg2 arg3 harg3 arg4 harg4 arg5 harg5 arg6 harg6 arg7 harg7 arg8 harg8 arg9 harg9
      arg10 harg10 arg11 harg11 arg12 harg12 arg13 harg13 x0 x1 x2 x3 x4 x5 x6).vCodes y
    (cover0_A_10 c i arg2 harg2 arg3 harg3 arg4 harg4 arg5 harg5 arg6 harg6 arg7 harg7 arg8 harg8 arg9 harg9
      arg10 harg10 arg11 harg11 arg12 harg12 arg13 harg13 x0 x1 x2 x3 x4 x5 x6 y)

/-- The second moment's scales, as a block's run leaves it. -/
theorem out11_eq : out0_A_11 (F := Ideal) c i arg2 harg2 arg3 harg3 arg4 harg4 arg5 harg5 arg6 harg6 arg7 harg7 arg8 harg8 arg9 harg9
      arg10 harg10 arg11 harg11 arg12 harg12 arg13 harg13 x0 x1 x2 x3 x4 x5 x6
    = scalesB (8589935 / 1090921693184) (vvB x2 x5 x6) :=
  funext fun y => View.read_writes_apply_of_pieces _ _ _ _
    (fine_run c i arg2 harg2 arg3 harg3 arg4 harg4 arg5 harg5 arg6 harg6 arg7 harg7 arg8 harg8 arg9 harg9
      arg10 harg10 arg11 harg11 arg12 harg12 arg13 harg13 x0 x1 x2 x3 x4 x5 x6).vScales y
    (cover0_A_11 c i arg2 harg2 arg3 harg3 arg4 harg4 arg5 harg5 arg6 harg6 arg7 harg7 arg8 harg8 arg9 harg9
      arg10 harg10 arg11 harg11 arg12 harg12 arg13 harg13 x0 x1 x2 x3 x4 x5 x6 y)

end Cert.KernelIdeal.Gen
-- ==== Proof.KernelArray.lean ====
/- What the kernel's five result arrays hold, as functions of the argument arrays. -/
module

public import proofs.«01_k».proof.Proof.Gen.KernelIdeal.Value
public import Idealize.ShloMosaic.Lib.Pipeline.ValueKit.Geometry
public import Idealize.ShloMosaic.Lib.StableHlo.Run
public import proofs.«01_k».proof.Proof.Output

@[expose] public section

noncomputable section

namespace Cert.KernelIdeal.Gen

open Idealize.ShloMosaic Idealize.SL.Sem Cert.Adam

/-! ### The five functions of the arrays -/

/-- The block of 128 rows that a row of the 3072 is in. -/
abbrev blkA (i : Fin 3072) : Fin 24 := ⟨i.val / 128, by omega⟩

/-- Row `r` of block `a`. -/
abbrev rowA (a : Fin 24) (r : Fin 128) : Fin 3072 := ⟨a.val * 128 + r.val, by omega⟩

/-- The folded first moment over the arrays. -/
def mmA (g : Vec Ideal S3072x5120 .bf16) (mc : Vec Ideal S3072x5120 .i8) (ms : Vec Ideal S24x5120 .f32)
    (i : Fin 3072) (c : Fin 5120) : EReal :=
  folded (120795952 / 13421773) (code (mc (ix2 i c))) (ms (ix2 (blkA i) c)) (g (ix2 i c))

/-- The folded second moment over the arrays. -/
def vvA (g : Vec Ideal S3072x5120 .bf16) (vc : Vec Ideal S3072x5120 .i8) (vs : Vec Ideal S24x5120 .f32)
    (i : Fin 3072) (c : Fin 5120) : EReal :=
  folded (8581344768 / 8589935) (code (vc (ix2 i c))) (vs (ix2 (blkA i) c)) (g (ix2 i c) * g (ix2 i c))

/-- The step over the arrays, from the two folded moments. -/
def deltaA (t : BitVec 32) (p : Vec Ideal S3072x5120 .f32) (m v : Fin 3072 → Fin 5120 → EReal) : Vec Ideal S3072x5120 .f32 :=
  fun y => deltaF (-13421773 / 134217728000) (-1 / 100000) (11258999 / 1125899906842624) ((2 : ℝ) ^ (-126 : ℤ))
    (Real.log (7549747 / 8388608)) (Real.log (16760439 / 16777216)) (8589935 / 8589934592)
    ((t.toInt : ℝ) : EReal) (m (y 0) (y 1)) (v (y 0) (y 1)) (p y)

/-- The codes of a folded moment over the arrays. -/
def codesA (f : Fin 3072 → Fin 5120 → EReal) : Vec Ideal S3072x5120 .i8 :=
  fun y => codeF (f (y 0) (y 1)) (amax fun r => f (rowA (blkA (y 0)) r) (y 1))

/-- The scales of a folded moment over the arrays. -/
def scalesA (k : ℝ) (f : Fin 3072 → Fin 5120 → EReal) : Vec Ideal S24x5120 .f32 :=
  fun z => scaleF k (amax fun r => f (rowA (z 0) r) (z 1))

/-! ### Where a grid point's blocks lie -/

/-- Grid point `t` works at row block `t / 10` and column block `t % 10`. -/
theorem point (t : Fin cfg0.N) : cc0_transform_1 (grid0.coords t) 0 = t.val / 10 ∧ cc0_transform_1 (grid0.coords t) 1 = t.val % 10 :=
  (by decide +kernel : ∀ t : Fin grid0.N,
    cc0_transform_1 (grid0.coords t) 0 = t.val / 10 ∧ cc0_transform_1 (grid0.coords t) 1 = t.val % 10) t

theorem point_lt (t : Fin cfg0.N) : t.val < 30 := t.isLt

/-- Row `i` of point `t`'s block of 1024 rows. -/
abbrev rowT (t : Fin cfg0.N) (i : Fin 1024) : Fin 3072 := ⟨t.val / 10 * 1024 + i.val, by have := point_lt t; omega⟩

/-- Row `a` of point `t`'s block of 8 rows of scales. -/
abbrev sclT (t : Fin cfg0.N) (a : Fin 8) : Fin 24 := ⟨t.val / 10 * 8 + a.val, by have := point_lt t; omega⟩

/-- Column `l` of point `t`'s block of 512 columns. -/
abbrev colT (t : Fin cfg0.N) (l : Fin 512) : Fin 5120 := ⟨t.val % 10 * 512 + l.val, by omega⟩

theorem blkA_rowT (t : Fin cfg0.N) (i : Fin 1024) : blkA (rowT t i) = sclT t (blkB i) :=
  Fin.ext (by show (t.val / 10 * 1024 + i.val) / 128 = t.val / 10 * 8 + i.val / 128; omega)

theorem rowA_sclT (t : Fin cfg0.N) (a : Fin 8) (r : Fin 128) : rowA (sclT t a) r = rowT t (rowB a r) :=
  Fin.ext (by show (t.val / 10 * 8 + a.val) * 128 + r.val = t.val / 10 * 1024 + (a.val * 128 + r.val); omega)

/-- An index of a point's big block, in the array. -/
theorem emb_bigT (t : Fin cfg0.N) (i : Fin 1024) (l : Fin 512) :
    (win0_1.blk t).view.emb (ix2 i l) = (ix2 (rowT t i) (colT t l) : S3072x5120.Idx) := by
  funext d
  apply Fin.ext
  match d with
  | ⟨0, _⟩ => show cc0_transform_1 (grid0.coords t) 0 * 1024 + 1 * i.val = t.val / 10 * 1024 + i.val; rw [(point t).1]; omega
  | ⟨1, _⟩ => show cc0_transform_1 (grid0.coords t) 1 * 512 + 1 * l.val = t.val % 10 * 512 + l.val; rw [(point t).2]; omega

/-- An index of a point's block of scales, in the array. -/
theorem emb_sclT (t : Fin cfg0.N) (a : Fin 8) (l : Fin 512) :
    (win0_4.blk t).view.emb (ix2 a l) = (ix2 (sclT t a) (colT t l) : S24x5120.Idx) := by
  funext d
  apply Fin.ext
  match d with
  | ⟨0, _⟩ => show cc0_transform_1 (grid0.coords t) 0 * 8 + 1 * a.val = t.val / 10 * 8 + a.val; rw [(point t).1]; omega
  | ⟨1, _⟩ => show cc0_transform_1 (grid0.coords t) 1 * 512 + 1 * l.val = t.val % 10 * 512 + l.val; rw [(point t).2]; omega

variable (m : (ℓ : Loc nD τ sig) → Buf (Elt Ideal) ℓ)

/-! ### A point's input blocks -/

theorem iblk1 (c : Dev nD) (t : Fin cfg0.N) (i : Fin 1024) (l : Fin 512) :
    (iblk m c 1 t : Vec Ideal S1024x512 .f32) (ix2 i l) = m ((c.tc : Thread nD τ).loc main_arg0) (ix2 (rowT t i) (colT t l)) :=
  (congrFun (V_main_arg0 m c) _).trans (congrArg (m _) (emb_bigT t i l))

theorem iblk2 (c : Dev nD) (t : Fin cfg0.N) (i : Fin 1024) (l : Fin 512) :
    (iblk m c 2 t : Vec Ideal S1024x512 .bf16) (ix2 i l) = m ((c.tc : Thread nD τ).loc main_arg1) (ix2 (rowT t i) (colT t l)) :=
  (congrFun (V_main_arg1 m c) _).trans (congrArg (m _) (emb_bigT t i l))

theorem iblk3 (c : Dev nD) (t : Fin cfg0.N) (i : Fin 1024) (l : Fin 512) :
    (iblk m c 3 t : Vec Ideal S1024x512 .i8) (ix2 i l) = m ((c.tc : Thread nD τ).loc main_arg2) (ix2 (rowT t i) (colT t l)) :=
  (congrFun (V_main_arg2 m c) _).trans (congrArg (m _) (emb_bigT t i l))

theorem iblk4 (c : Dev nD) (t : Fin cfg0.N) (a : Fin 8) (l : Fin 512) :
    (iblk m c 4 t : Vec Ideal S8x512 .f32) (ix2 a l) = m ((c.tc : Thread nD τ).loc main_arg3) (ix2 (sclT t a) (colT t l)) :=
  (congrFun (V_main_arg3 m c) _).trans (congrArg (m _) (emb_sclT t a l))

theorem iblk5 (c : Dev nD) (t : Fin cfg0.N) (i : Fin 1024) (l : Fin 512) :
    (iblk m c 5 t : Vec Ideal S1024x512 .i8) (ix2 i l) = m ((c.tc : Thread nD τ).loc main_arg4) (ix2 (rowT t i) (colT t l)) :=
  (congrFun (V_main_arg4 m c) _).trans (congrArg (m _) (emb_bigT t i l))

theorem iblk6 (c : Dev nD) (t : Fin cfg0.N) (a : Fin 8) (l : Fin 512) :
    (iblk m c 6 t : Vec Ideal S8x512 .f32) (ix2 a l) = m ((c.tc : Thread nD τ).loc main_arg5) (ix2 (sclT t a) (colT t l)) :=
  (congrFun (V_main_arg5 m c) _).trans (congrArg (m _) (emb_sclT t a l))

/-- The step count that every point reads. -/
theorem iblk0 (c : Dev nD) (t : Fin cfg0.N) :
    (iblk m c 0 t : Vec Ideal S1 .i32) (ix1 0) = m ((c.tc : Thread nD τ).loc main_arg6) (fun a => a.elim0) := by
  have hv : V m c main_v0 = shapeCast S1 (m ((c.tc : Thread nD τ).loc main_arg6) : Vec Ideal S_ .i32) shapeCasts_S_S1 := by
    unfold_abbrev_sides
    after_results
    rfl
  show V m c main_v0 _ = _
  rw [hv]
  exact congrArg (m _) (funext fun a => a.elim0)

/-! ### The folded moments of a point's blocks -/

/-- The gradient, the five other arguments and the step count on core `c`. -/
abbrev argP (c : Dev nD) : Vec Ideal S3072x5120 .f32 := m ((c.tc : Thread nD τ).loc main_arg0)
abbrev argG (c : Dev nD) : Vec Ideal S3072x5120 .bf16 := m ((c.tc : Thread nD τ).loc main_arg1)
abbrev argMc (c : Dev nD) : Vec Ideal S3072x5120 .i8 := m ((c.tc : Thread nD τ).loc main_arg2)
abbrev argMs (c : Dev nD) : Vec Ideal S24x5120 .f32 := m ((c.tc : Thread nD τ).loc main_arg3)
abbrev argVc (c : Dev nD) : Vec Ideal S3072x5120 .i8 := m ((c.tc : Thread nD τ).loc main_arg4)
abbrev argVs (c : Dev nD) : Vec Ideal S24x5120 .f32 := m ((c.tc : Thread nD τ).loc main_arg5)
abbrev argT (c : Dev nD) : BitVec 32 := (m ((c.tc : Thread nD τ).loc main_arg6) : Vec Ideal S_ .i32) (fun a => a.elim0)

theorem mmB_point (c : Dev nD) (t : Fin cfg0.N) (i : Fin 1024) (l : Fin 512) :
    mmB (iblk m c 2 t) (iblk m c 3 t) (iblk m c 4 t) i l = mmA (argG m c) (argMc m c) (argMs m c) (rowT t i) (colT t l) := by
  unfold mmB mmA
  rw [iblk2, iblk3, iblk4, blkA_rowT]

theorem vvB_point (c : Dev nD) (t : Fin cfg0.N) (i : Fin 1024) (l : Fin 512) :
    vvB (iblk m c 2 t) (iblk m c 5 t) (iblk m c 6 t) i l = vvA (argG m c) (argVc m c) (argVs m c) (rowT t i) (colT t l) := by
  unfold vvB vvA
  rw [iblk2, iblk5, iblk6, blkA_rowT]

/-! ### Blocks of the five functions -/

theorem deltaB_point (c : Dev nD) (t : Fin cfg0.N) (i : Fin 1024) (l : Fin 512) :
    deltaB ((iblk m c 0 t : Vec Ideal S1 .i32) (ix1 0)) (iblk m c 1 t) (mmB (iblk m c 2 t) (iblk m c 3 t) (iblk m c 4 t))
        (vvB (iblk m c 2 t) (iblk m c 5 t) (iblk m c 6 t)) (ix2 i l)
      = deltaA (argT m c) (argP m c) (mmA (argG m c) (argMc m c) (argMs m c)) (vvA (argG m c) (argVc m c) (argVs m c))
          (ix2 (rowT t i) (colT t l)) := by
  show deltaF _ _ _ _ _ _ _ _ (mmB _ _ _ i l) (vvB _ _ _ i l) _
    = deltaF _ _ _ _ _ _ _ _ (mmA _ _ _ (rowT t i) (colT t l)) (vvA _ _ _ (rowT t i) (colT t l)) _
  rw [mmB_point, vvB_point, iblk0, iblk1]

theorem codesB_point {f : Fin 1024 → Fin 512 → EReal} {f' : Fin 3072 → Fin 5120 → EReal} (t : Fin cfg0.N)
    (h : ∀ i l, f i l = f' (rowT t i) (colT t l)) (i : Fin 1024) (l : Fin 512) :
    codesB f (ix2 i l) = codesA f' (ix2 (rowT t i) (colT t l)) := by
  show codeF (f i l) (amax fun r => f (rowB (blkB i) r) l)
    = codeF (f' (rowT t i) (colT t l)) (amax fun r => f' (rowA (blkA (rowT t i)) r) (colT t l))
  simp only [h, blkA_rowT, rowA_sclT]

theorem scalesB_point {f : Fin 1024 → Fin 512 → EReal} {f' : Fin 3072 → Fin 5120 → EReal} (k : ℝ) (t : Fin cfg0.N)
    (h : ∀ i l, f i l = f' (rowT t i) (colT t l)) (a : Fin 8) (l : Fin 512) :
    scalesB k f (ix2 a l) = scalesA k f' (ix2 (sclT t a) (colT t l)) := by
  show scaleF k (amax fun r => f (rowB a r) l) = scaleF k (amax fun r => f' (rowA (sclT t a) r) (colT t l))
  simp only [h, rowA_sclT]

/-! ### The arrays -/

/-- The step's array. -/
theorem final7 (c : Dev nD) : (dats m 0 c).arrAt 7 cfg0.N
    = deltaA (argT m c) (argP m c) (mmA (argG m c) (argMc m c) (argMs m c)) (vvA (argG m c) (argVc m c) (argVs m c)) := by
  refine (dats m 0 c).arrAt_eq_of_covers 7 _ (by decide +kernel) fun t _ y => ?_
  rw [after0_7]
  simp only [outsAt0]
  rw [out7_eq]
  obtain ⟨i, l, rfl⟩ : ∃ (i : Fin 1024) (l : Fin 512), y = ix2 i l := ⟨y 0, y 1, eq_ix2 (n0 := 1024) (n1 := 512) y⟩
  exact (deltaB_point m c t i l).trans (congrArg _ (emb_bigT t i l).symm)

/-- The first moment's codes. -/
theorem final8 (c : Dev nD) : (dats m 0 c).arrAt 8 cfg0.N = codesA (mmA (argG m c) (argMc m c) (argMs m c)) := by
  refine (dats m 0 c).arrAt_eq_of_covers 8 _ (by decide +kernel) fun t _ y => ?_
  rw [after0_8]
  simp only [outsAt0]
  rw [out8_eq]
  obtain ⟨i, l, rfl⟩ : ∃ (i : Fin 1024) (l : Fin 512), y = ix2 i l := ⟨y 0, y 1, eq_ix2 (n0 := 1024) (n1 := 512) y⟩
  exact (codesB_point t (mmB_point m c t) i l).trans (congrArg _ (emb_bigT t i l).symm)

/-- The first moment's scales. -/
theorem final9 (c : Dev nD) : (dats m 0 c).arrAt 9 cfg0.N = scalesA (13421773 / 17045651456) (mmA (argG m c) (argMc m c) (argMs m c)) := by
  refine (dats m 0 c).arrAt_eq_of_covers 9 _ (by decide +kernel) fun t _ y => ?_
  rw [after0_9]
  simp only [outsAt0]
  rw [out9_eq]
  obtain ⟨i, l, rfl⟩ : ∃ (i : Fin 8) (l : Fin 512), y = ix2 i l := ⟨y 0, y 1, eq_ix2 (n0 := 8) (n1 := 512) y⟩
  exact (scalesB_point _ t (mmB_point m c t) i l).trans (congrArg _ (emb_sclT t i l).symm)

/-- The second moment's codes. -/
theorem final10 (c : Dev nD) : (dats m 0 c).arrAt 10 cfg0.N = codesA (vvA (argG m c) (argVc m c) (argVs m c)) := by
  refine (dats m 0 c).arrAt_eq_of_covers 10 _ (by decide +kernel) fun t _ y => ?_
  rw [after0_10]
  simp only [outsAt0]
  rw [out10_eq]
  obtain ⟨i, l, rfl⟩ : ∃ (i : Fin 1024) (l : Fin 512), y = ix2 i l := ⟨y 0, y 1, eq_ix2 (n0 := 1024) (n1 := 512) y⟩
  exact (codesB_point t (vvB_point m c t) i l).trans (congrArg _ (emb_bigT t i l).symm)

/-- The second moment's scales. -/
theorem final11 (c : Dev nD) : (dats m 0 c).arrAt 11 cfg0.N = scalesA (8589935 / 1090921693184) (vvA (argG m c) (argVc m c) (argVs m c)) := by
  refine (dats m 0 c).arrAt_eq_of_covers 11 _ (by decide +kernel) fun t _ y => ?_
  rw [after0_11]
  simp only [outsAt0]
  rw [out11_eq]
  obtain ⟨i, l, rfl⟩ : ∃ (i : Fin 8) (l : Fin 512), y = ix2 i l := ⟨y 0, y 1, eq_ix2 (n0 := 8) (n1 := 512) y⟩
  exact (scalesB_point _ t (vvB_point m c t) i l).trans (congrArg _ (emb_sclT t i l).symm)

end Cert.KernelIdeal.Gen
-- ==== Proof.RefRead.lean ====
/- What the reference computes, read at an index: the two moments, the update, the scales and the codes, as the
   functions of Scalars.lean and Update.lean. -/
module

public import proofs.«01_k».proof.Proof.Gen.ReferenceIdeal.Skeleton
public import proofs.«01_k».proof.Proof.Reductions
public import proofs.«01_k».proof.Proof.Update

@[expose] public section

noncomputable section

namespace Cert.ReferenceIdeal.Gen

open Idealize.ShloMosaic Idealize.SL.Sem Cert.Adam

/-- The block of 128 rows that row `i` is in. -/
abbrev blk (i : Fin 3072) : Fin 24 := ⟨i.val / 128, by omega⟩

/-- Row `r` of block `a`. -/
abbrev rowOf (a : Fin 24) (r : Fin 128) : Fin 3072 := ⟨a.val * 128 + r.val, by omega⟩

/-- The new first moment at an index. -/
theorem m_apply (mc : Vec Ideal S3072x5120 .i8) (ms : Vec Ideal S24x5120 .f32) (g : Vec Ideal S3072x5120 .bf16)
    (i : Fin 3072) (c : Fin 5120) :
    k0_pay4 mc ms g (ix2 i c)
      = moment (7549747 / 8388608) (13421773 / 134217728) (code (mc (ix2 i c))) (ms (ix2 (blk i) c)) (g (ix2 i c)) := by
  pointwise [k0_pay4, k0_pay3]
  rw [ofBits_b1, ofBits_c1]; rfl

/-- The new second moment at an index. -/
theorem v_apply (vc : Vec Ideal S3072x5120 .i8) (vs : Vec Ideal S24x5120 .f32) (g : Vec Ideal S3072x5120 .bf16)
    (i : Fin 3072) (c : Fin 5120) :
    k0_pay5 vc vs g (ix2 i c)
      = moment (16760439 / 16777216) (8589935 / 8589934592) (code (vc (ix2 i c))) (vs (ix2 (blk i) c))
          (g (ix2 i c) * g (ix2 i c)) := by
  pointwise [k0_pay5, k0_pay3]
  rw [ofBits_b2, ofBits_c2]; rfl

/-- The update at an index. -/
theorem delta_apply (t : Elt Ideal .i32) (mc : Vec Ideal S3072x5120 .i8) (ms : Vec Ideal S24x5120 .f32)
    (g : Vec Ideal S3072x5120 .bf16) (p v : FVec Ideal S3072x5120 .f32) (i : Fin 3072) (c : Fin 5120) :
    k0_pay9 p v (k0_pay7 mc ms g t) (k0_pay8 t) (ix2 i c)
      = deltaQ (7549747 / 8388608) (16760439 / 16777216) (-1 / 1000) (1 / 100) (11258999 / 1125899906842624)
          ((t.toInt : ℝ) : EReal) (k0_pay4 mc ms g (ix2 i c)) (v (ix2 i c)) (p (ix2 i c)) := by
  have h1 : Named.named (F := Ideal) κ "neg_lr" (φ := .f32) 0xBA83126F#32 = ((-1 / 1000 : ℝ) : EReal) := rfl
  have h2 : Named.named (F := Ideal) κ "wd" (φ := .f32) 0x3C23D70A#32 = ((1 / 100 : ℝ) : EReal) := rfl
  pointwise [k0_pay9, k0_pay7, k0_pay8, k0_pay6]
  rw [ofBits_b1, ofBits_b2, ofBits_eps, h1, h2]; rfl

/-- A block's largest magnitude. -/
theorem amax_apply (x : FVec Ideal S3072x5120 .f32) (a : Fin 24) (c : Fin 5120) :
    k0_pay14 x (ix2 a c) = amax fun r => x (ix2 (rowOf a r) c) := by
  refine (amax_axis1 (k0_pay13 x) reduces_S24x128x5120_S24x5120 (.inl rfl) rfl a c).trans ?_
  congr 1
  funext r
  pointwise [k0_pay13]

/-- A block's scale. -/
theorem scale_apply (x : FVec Ideal S3072x5120 .f32) (a : Fin 24) (c : Fin 5120) :
    k0_pay1 (k0_pay15 x) (k0_pay16 x) (ix2 a c) = scaleQ (amax fun r => x (ix2 (rowOf a r) c)) := by
  rw [← amax_apply]
  exact scaleQ_vec (k0_pay14 x) (ix2 a c)

/-- Row `i`'s place in its block. -/
abbrev within (i : Fin 3072) : Fin 128 := ⟨i.val % 128, by omega⟩

/-- Splitting the rows into blocks keeps each element. -/
theorem split_apply (x : FVec Ideal S3072x5120 .f32) (i : Fin 3072) (c : Fin 5120) :
    k0_pay13 x (ix3 (blk i) (within i) c) = x (ix2 i c) := by
  pointwise [k0_pay13]
  congr 2
  exact Fin.ext (by show i.val / 128 * 128 + i.val % 128 = i.val; omega)

/-- Joining the blocks again reads the element at its block and its place there. -/
theorem join_apply (w : IVec S24x128x5120 8) (i : Fin 3072) (c : Fin 5120) :
    shapeCast S3072x5120 w shapeCasts_S24x128x5120_S3072x5120 (ix2 i c) = w (ix3 (blk i) (within i) c) := by
  pointwise

/-- A block's scale, repeated over its rows. -/
theorem repeat_apply (s : FVec Ideal S24x5120 .f32) (a : Fin 24) (r : Fin 128) (c : Fin 5120) :
    broadcastTo S24x128x5120 (shapeCast S24x1x5120 s shapeCasts_S24x5120_S24x1x5120)
      broadcasts_S24x1x5120_S24x128x5120 (ix3 a r c) = s (ix2 a c) := by
  pointwise

/-- The codes. -/
theorem codes_apply (x : FVec Ideal S3072x5120 .f32) (i : Fin 3072) (c : Fin 5120) :
    k0_pay2 (k0_pay13 x) (k0_pay15 x) (k0_pay16 x) (ix2 i c)
      = codeQ (x (ix2 i c)) (scaleQ (amax fun r => x (ix2 (rowOf (blk i) r) c))) := by
  rw [← scale_apply]
  exact ((join_apply _ i c).trans (codeQ_vec _ _ _)).trans
    (congrArg₂ codeQ (split_apply x i c) (repeat_apply (k0_pay1 (k0_pay15 x) (k0_pay16 x)) (blk i) (within i) c))

/-- The first moment's scales are computed as the second's. -/
theorem m_scale_eq (x : FVec Ideal S3072x5120 .f32) : k0_pay11 x = k0_pay1 (k0_pay15 x) (k0_pay16 x) := rfl

/-- The first moment's codes are computed as the second's. -/
theorem m_codes_eq (x : FVec Ideal S3072x5120 .f32) : k0_pay12 x = k0_pay2 (k0_pay13 x) (k0_pay15 x) (k0_pay16 x) := rfl

end Cert.ReferenceIdeal.Gen
-- ==== Proof.Mask.lean ====
/- Where the mask is set: a step count of at least one, a finite parameter, and a second moment that is finite and,
   divided by one minus its decay, zero or at least the least normal number. -/
module

public import proofs.«01_k».proof.Proof.Gen.On_delta_defined
public import Idealize.ShloMosaic.Lib.Pointwise
public import proofs.«01_k».proof.Proof.Reductions
public import proofs.«01_k».proof.Proof.Update

@[expose] public section

noncomputable section

namespace Cert.On_delta_defined.Gen

open Idealize.ShloMosaic Cert.Adam

/-- The block of 128 rows that row `i` is in. -/
abbrev blk (i : Fin 3072) : Fin 24 := ⟨i.val / 128, by omega⟩

/-- The new second moment at an index, as the mask computes it. -/
abbrev vAt (g : FVec Ideal S3072x5120 .bf16) (vc : IVec S3072x5120 8) (vs : FVec Ideal S24x5120 .f32)
    (i : Fin 3072) (c : Fin 5120) : EReal :=
  moment (16760439 / 16777216) (8589935 / 8589934592) (code (vc (ix2 i c))) (vs (ix2 (blk i) c)) (g (ix2 i c) * g (ix2 i c))

/-- A sign-extended code is the same number. -/
theorem code_signExtend (b : BitVec 8) : FloatOps.sitofp (F := Ideal) .f32 (BitVec.signExtend 32 b) = code b := by
  show (((BitVec.signExtend 32 b).toInt : ℝ) : EReal) = _
  rw [BitVec.toInt_signExtend_of_le (by norm_num)]

/-- A conjunction of bits is set when both are. -/
theorem and_one (a b : BitVec 1) : IntOp.andi a b = 1#1 ↔ a = 1#1 ∧ b = 1#1 := by
  revert a b; decide

/-- A disjunction of bits is set when one of them is. -/
theorem or_one (a b : BitVec 1) : IntOp.ori a b = 1#1 ↔ a = 1#1 ∨ b = 1#1 := by
  revert a b; decide

/-- A truth value's bit is set when it is true. -/
theorem ofBool_one (q : Prop) [Decidable q] : BitVec.ofBool (decide q) = 1#1 ↔ q := by
  by_cases h : q <;> simp [h]

/-- A magnitude below infinity is a real number's. -/
theorem real_of_abs {x : EReal} (h : max x (-x) < ⊤) : ∃ r : ℝ, x = r := by
  induction x with
  | bot => simp at h
  | top => simp at h
  | coe r => exact ⟨r, rfl⟩

/-- A multiple that is finite and is zero or, divided again, at least `tiny`, is of a real that is zero or at least
    `tiny`. -/
theorem real_of_mul {c tiny : ℝ} (hc : 0 < c) {u : EReal} (h1 : (c : EReal) * u < ⊤)
    (h2 : (c : EReal) * u = 0 ∨ (tiny : EReal) ≤ Ideal.div ((c : EReal) * u) (c : EReal)) :
    ∃ y : ℝ, u = y ∧ (y = 0 ∨ tiny ≤ y) := by
  rw [Ideal.div_coe hc.ne'] at h2
  induction u with
  | bot =>
    rw [EReal.coe_mul_bot_of_pos hc, EReal.bot_mul_coe_of_pos (by positivity)] at h2
    simp at h2
  | top => rw [EReal.coe_mul_top_of_pos hc] at h1; simp at h1
  | coe y =>
    refine ⟨y, rfl, ?_⟩
    rw [← EReal.coe_mul, ← EReal.coe_mul, EReal.coe_le_coe_iff, EReal.coe_eq_zero] at h2
    rcases h2 with h | h
    · exact .inl ((mul_eq_zero.1 h).resolve_left hc.ne')
    · refine .inr (h.trans_eq ?_)
      field_simp

/-- Where the mask is set, the step count is at least one, the parameter is a real number, and the new second moment is
    finite and is zero or, divided by one minus its decay, at least the least normal number. -/
theorem of_mask (p : FVec Ideal S3072x5120 .f32) (g : FVec Ideal S3072x5120 .bf16) (mc : IVec S3072x5120 8)
    (ms : FVec Ideal S24x5120 .f32) (vc : IVec S3072x5120 8) (vs : FVec Ideal S24x5120 .f32) (t : IVec S_ 32)
    (i : Fin 3072) (c : Fin 5120) (h : (fn (F := Ideal) p g mc ms vc vs t).1 (ix2 i c) = 1#1) :
    1 ≤ (t ix0).toInt ∧ (∃ r : ℝ, p (ix2 i c) = r) ∧ vAt g vc vs i c < ⊤
      ∧ (vAt g vc vs i c = 0 ∨ (((2 : ℝ) ^ (-126 : ℤ) : ℝ) : EReal)
          ≤ Ideal.div (vAt g vc vs i c) ((8589935 / 8589934592 : ℝ) : EReal)) := by
  revert h
  unfold fn fn_part1
  pointwise
  rw [ofBits_inf, ofBits_b2, ofBits_c2, ofBits_tiny, code_signExtend]
  simp only [and_one, or_one, ofBool_one]
  rintro ⟨⟨⟨ht, hp⟩, hv⟩, hz⟩
  refine ⟨?_, real_of_abs hp, hv, hz⟩
  have hq : (1#32).sle (t ix0) = true := by
    by_contra hn
    rw [Bool.not_eq_true] at hn
    have : IntOp.cmpi .sge (t ix0) 1#32 = BitVec.ofBool ((1#32).sle (t ix0)) := rfl
    rw [this, hn] at ht
    simp at ht
  simpa [BitVec.sle] using hq

end Cert.On_delta_defined.Gen
-- ==== Proof.Equation.lean ====
/- The reference's five arrays are the kernel's: codes and scales everywhere, the step where the mask is set. -/
module

public import proofs.«01_k».proof.Proof.KernelArray
public import proofs.«01_k».proof.Proof.RefRead
public import proofs.«01_k».proof.Proof.Mask

@[expose] public section

noncomputable section

namespace Cert.Equation

open Idealize.ShloMosaic Cert.Adam
open Cert.KernelIdeal (S3072x5120 S24x5120 S_)
open Cert.KernelIdeal.Gen (mmA vvA deltaA codesA scalesA blkA rowA)
open Cert.ReferenceIdeal.Gen (k0_pay1 k0_pay2 k0_pay4 k0_pay5 k0_pay7 k0_pay8 k0_pay9 k0_pay11 k0_pay12 k0_pay13 k0_pay15 k0_pay16)

variable (p : Vec Ideal S3072x5120 .f32) (g : Vec Ideal S3072x5120 .bf16) (mc : Vec Ideal S3072x5120 .i8)
  (ms : Vec Ideal S24x5120 .f32) (vc : Vec Ideal S3072x5120 .i8) (vs : Vec Ideal S24x5120 .f32)

/-- The new first moment is its factor times the folded one. -/
theorem m_folded (i : Fin 3072) (c : Fin 5120) :
    k0_pay4 mc ms g (ix2 i c) = ((13421773 / 134217728 : ℝ) : EReal) * mmA g mc ms i c :=
  (Cert.ReferenceIdeal.Gen.m_apply mc ms g i c).trans (moment_eq (by norm_num) (by norm_num) _ _ _)

/-- The new second moment is its factor times the folded one. -/
theorem v_folded (i : Fin 3072) (c : Fin 5120) :
    k0_pay5 vc vs g (ix2 i c) = ((8589935 / 8589934592 : ℝ) : EReal) * vvA g vc vs i c :=
  (Cert.ReferenceIdeal.Gen.v_apply vc vs g i c).trans (moment_eq (by norm_num) (by norm_num) _ _ _)

/-- A row's block and its place in the block give the row back. -/
theorem row_eq (i : Fin 3072) : rowA (blkA i) ⟨i.val % 128, by omega⟩ = i :=
  Fin.ext (by show i.val / 128 * 128 + i.val % 128 = i.val; omega)

/-- A value is at most the largest magnitude of its block. -/
theorem le_block (f : Fin 3072 → Fin 5120 → EReal) (i : Fin 3072) (c : Fin 5120) :
    max (f i c) (-f i c) ≤ amax fun r => f (rowA (blkA i) r) c := by
  have h := le_amax (fun r => f (rowA (blkA i) r) c) ⟨i.val % 128, by omega⟩
  simp only [row_eq] at h
  exact h

section
variable {x : FVec Ideal S3072x5120 .f32} {f : Fin 3072 → Fin 5120 → EReal} {C : ℝ} (hC : 0 < C)
  (hx : ∀ i c, x (ix2 i c) = (C : EReal) * f i c)
include hC hx

/-- A block's largest magnitude is the factor times the folded block's. -/
theorem amax_folded (a : Fin 24) (c : Fin 5120) :
    (amax fun r => x (ix2 (rowA a r) c)) = (C : EReal) * amax fun r => f (rowA a r) c := by
  simp only [hx]
  exact amax_mul hC _

/-- The reference's scales of a moment are the kernel's of the folded moment. -/
theorem scales_eq {k : ℝ} (hk : k = C / 127) : k0_pay1 (k0_pay15 x) (k0_pay16 x) = scalesA k f := by
  funext z
  rw [eq_ix2 (n0 := 24) (n1 := 5120) z]
  exact (Cert.ReferenceIdeal.Gen.scale_apply x (z 0) (z 1)).trans
    ((congrArg scaleQ (amax_folded hC hx (z 0) (z 1))).trans (scaleQ_mul hC hk _))

/-- The reference's codes of a moment are the kernel's of the folded moment. -/
theorem codes_eq : k0_pay2 (k0_pay13 x) (k0_pay15 x) (k0_pay16 x) = codesA f := by
  funext y
  rw [eq_ix2 (n0 := 3072) (n1 := 5120) y]
  exact (Cert.ReferenceIdeal.Gen.codes_apply x (y 0) (y 1)).trans
    ((congrArg₂ (fun u w => codeQ u (scaleQ w)) (hx (y 0) (y 1)) (amax_folded hC hx (blkA (y 0)) (y 1))).trans
      (codeQ_mul hC (le_block f (y 0) (y 1))))

end

/-- The first moment's codes. -/
theorem m_codes : k0_pay12 (k0_pay4 mc ms g) = codesA (mmA g mc ms) :=
  (Cert.ReferenceIdeal.Gen.m_codes_eq _).trans (codes_eq (by norm_num) (m_folded g mc ms))

/-- The first moment's scales. -/
theorem m_scales : k0_pay11 (k0_pay4 mc ms g) = scalesA (13421773 / 17045651456) (mmA g mc ms) :=
  (Cert.ReferenceIdeal.Gen.m_scale_eq _).trans (scales_eq (by norm_num) (m_folded g mc ms) (by norm_num))

/-- The second moment's codes. -/
theorem v_codes : k0_pay2 (k0_pay13 (k0_pay5 vc vs g)) (k0_pay15 (k0_pay5 vc vs g)) (k0_pay16 (k0_pay5 vc vs g))
    = codesA (vvA g vc vs) :=
  codes_eq (by norm_num) (v_folded g vc vs)

/-- The second moment's scales. -/
theorem v_scales : k0_pay1 (k0_pay15 (k0_pay5 vc vs g)) (k0_pay16 (k0_pay5 vc vs g))
    = scalesA (8589935 / 1090921693184) (vvA g vc vs) :=
  scales_eq (by norm_num) (v_folded g vc vs) (by norm_num)

/-- The step at a row and a column, where the mask is set. -/
theorem delta_at (t : IVec S_ 32) (i : Fin 3072) (c : Fin 5120)
    (h : (Cert.On_delta_defined.fn (F := Ideal) p g mc ms vc vs t).1 (ix2 i c) = 1#1) :
    k0_pay9 p (k0_pay5 vc vs g) (k0_pay7 mc ms g (t ix0)) (k0_pay8 (t ix0)) (ix2 i c)
      = deltaA (t ix0) p (mmA g mc ms) (vvA g vc vs) (ix2 i c) := by
  obtain ⟨ht, ⟨r, hr⟩, hv, hz⟩ := Cert.On_delta_defined.Gen.of_mask p g mc ms vc vs t i c h
  have hm : Cert.On_delta_defined.Gen.vAt g vc vs i c = ((8589935 / 8589934592 : ℝ) : EReal) * vvA g vc vs i c :=
    moment_eq (by norm_num) (by norm_num) _ _ _
  rw [hm] at hv hz
  obtain ⟨u, hu, hy⟩ := Cert.On_delta_defined.Gen.real_of_mul (by norm_num) hv hz
  have e := deltaQ_eq (b1 := 7549747 / 8388608) (b2 := 16760439 / 16777216) (c1 := 13421773 / 134217728)
    (c2 := 8589935 / 8589934592) (nlr := -1 / 1000) (wd := 1 / 100) (e := 11258999 / 1125899906842624)
    (tiny := (2 : ℝ) ^ (-126 : ℤ)) (by norm_num) (by norm_num) (by norm_num) (by norm_num) (by norm_num) (by norm_num)
    (by norm_num) (by norm_num) (by positivity) (t := ((t ix0).toInt : ℝ)) (p := r) (by exact_mod_cast ht) hy
    (mmA g mc ms i c)
  rw [show (-1 / 1000 : ℝ) * (13421773 / 134217728) = -13421773 / 134217728000 by norm_num,
    show (-1 / 1000 : ℝ) * (1 / 100) = -1 / 100000 by norm_num] at e
  refine (Cert.ReferenceIdeal.Gen.delta_apply (t ix0) mc ms g p (k0_pay5 vc vs g) i c).trans ?_
  rw [m_folded, v_folded, hu, hr]
  refine e.trans ?_
  rw [← hu, ← hr]
  rfl

/-- The step, where the mask is set. -/
theorem delta_eq (t : IVec S_ 32) (y : S3072x5120.Idx)
    (h : (Cert.On_delta_defined.fn (F := Ideal) p g mc ms vc vs t).1 y = 1#1) :
    k0_pay9 p (k0_pay5 vc vs g) (k0_pay7 mc ms g (t ix0)) (k0_pay8 (t ix0)) y
      = deltaA (t ix0) p (mmA g mc ms) (vvA g vc vs) y := by
  obtain ⟨i, c, rfl⟩ : ∃ (i : Fin 3072) (c : Fin 5120), y = ix2 i c := ⟨y 0, y 1, eq_ix2 (n0 := 3072) (n1 := 5120) y⟩
  exact delta_at p g mc ms vc vs t i c h

end Cert.Equation
-- ==== Proof.RefArray.lean ====
/- What the reference's five result arrays hold, as functions of the argument arrays. -/
module

public import proofs.«01_k».proof.Proof.Gen.ReferenceIdeal.Value
public import Idealize.ShloMosaic.Lib.Pipeline.ValueKit
public import Idealize.ShloMosaic.Lib.StableHlo.Run
public import proofs.«01_k».proof.Proof.RefRead

@[expose] public section

noncomputable section

namespace Cert.ReferenceIdeal.Gen

open Idealize.ShloMosaic Idealize.SL.Sem Idealize.ShloMosaic.Tactic Cert.Adam

variable (m : (ℓ : Loc nD τ sig) → Buf (Elt Ideal) ℓ)

/-- The arguments on core `c`. -/
abbrev argP (c : Dev nD) : Vec Ideal S3072x5120 .f32 := m ((c.tc : Thread nD τ).loc main_arg0)
abbrev argG (c : Dev nD) : Vec Ideal S3072x5120 .bf16 := m ((c.tc : Thread nD τ).loc main_arg1)
abbrev argMc (c : Dev nD) : Vec Ideal S3072x5120 .i8 := m ((c.tc : Thread nD τ).loc main_arg2)
abbrev argMs (c : Dev nD) : Vec Ideal S24x5120 .f32 := m ((c.tc : Thread nD τ).loc main_arg3)
abbrev argVc (c : Dev nD) : Vec Ideal S3072x5120 .i8 := m ((c.tc : Thread nD τ).loc main_arg4)
abbrev argVs (c : Dev nD) : Vec Ideal S24x5120 .f32 := m ((c.tc : Thread nD τ).loc main_arg5)
abbrev argT (c : Dev nD) : BitVec 32 := (m ((c.tc : Thread nD τ).loc main_arg6) : Vec Ideal S_ .i32) (fun a => a.elim0)

/-- The new moments. -/
abbrev newM (c : Dev nD) : FVec Ideal S3072x5120 .f32 := k0_pay4 (argMc m c) (argMs m c) (argG m c)
abbrev newV (c : Dev nD) : FVec Ideal S3072x5120 .f32 := k0_pay5 (argVc m c) (argVs m c) (argG m c)

/-- Whole contents, read back. -/
theorem read_whole {κ : Kind} (b : Ref sig κ) (h : (Memref.whole b).IsWhole) (x : Vec Ideal b.ty.shape b.ty.elt) :
    View.read (Elt Ideal) (View.whole b) (h.unread x) = x := h.read_unread x

/-! ### The one grid point's blocks are the arrays -/

/-- An index of a big block is the array's index. -/
theorem emb_big (t : Fin cfg0.N) (y : S3072x5120.Idx) : (win0_1.blk t).view.emb y = y := by
  funext d
  apply Fin.ext
  match d with
  | ⟨0, _⟩ => show 0 * 3072 + 1 * (y 0).val = (y 0).val; omega
  | ⟨1, _⟩ => show 0 * 5120 + 1 * (y 1).val = (y 1).val; omega

/-- An index of a block of scales is the array's index. -/
theorem emb_scl (t : Fin cfg0.N) (y : S24x5120.Idx) : (win0_4.blk t).view.emb y = y := by
  funext d
  apply Fin.ext
  match d with
  | ⟨0, _⟩ => show 0 * 24 + 1 * (y 0).val = (y 0).val; omega
  | ⟨1, _⟩ => show 0 * 5120 + 1 * (y 1).val = (y 1).val; omega

theorem iblk1 (c : Dev nD) (t : Fin cfg0.N) : (iblk m c 1 t : Vec Ideal S3072x5120 .f32) = argP m c :=
  funext fun y => (congrFun (V_main_arg0 m c) _).trans (congrArg (m _) (emb_big t y))

theorem iblk2 (c : Dev nD) (t : Fin cfg0.N) : (iblk m c 2 t : Vec Ideal S3072x5120 .bf16) = argG m c :=
  funext fun y => (congrFun (V_main_arg1 m c) _).trans (congrArg (m _) (emb_big t y))

theorem iblk3 (c : Dev nD) (t : Fin cfg0.N) : (iblk m c 3 t : Vec Ideal S3072x5120 .i8) = argMc m c :=
  funext fun y => (congrFun (V_main_arg2 m c) _).trans (congrArg (m _) (emb_big t y))

theorem iblk4 (c : Dev nD) (t : Fin cfg0.N) : (iblk m c 4 t : Vec Ideal S24x5120 .f32) = argMs m c :=
  funext fun y => (congrFun (V_main_arg3 m c) _).trans (congrArg (m _) (emb_scl t y))

theorem iblk5 (c : Dev nD) (t : Fin cfg0.N) : (iblk m c 5 t : Vec Ideal S3072x5120 .i8) = argVc m c :=
  funext fun y => (congrFun (V_main_arg4 m c) _).trans (congrArg (m _) (emb_big t y))

theorem iblk6 (c : Dev nD) (t : Fin cfg0.N) : (iblk m c 6 t : Vec Ideal S24x5120 .f32) = argVs m c :=
  funext fun y => (congrFun (V_main_arg5 m c) _).trans (congrArg (m _) (emb_scl t y))

theorem iblk0 (c : Dev nD) (t : Fin cfg0.N) : (iblk m c 0 t : Vec Ideal S1 .i32) (ix1 0) = argT m c := by
  have hv : V m c main_v0 = shapeCast S1 (m ((c.tc : Thread nD τ).loc main_arg6) : Vec Ideal S_ .i32) shapeCasts_S_S1 := by
    unfold_abbrev_sides
    after_results
    rfl
  show V m c main_v0 _ = _
  rw [hv]
  exact congrArg (m _) (funext fun a => a.elim0)

/-! ### The arrays -/

/-- The step. -/
theorem final7 (c : Dev nD) : (dats m 0 c).arrAt 7 cfg0.N
    = k0_pay9 (argP m c) (newV m c) (k0_pay7 (argMc m c) (argMs m c) (argG m c) (argT m c)) (k0_pay8 (argT m c)) := by
  refine (dats m 0 c).arrAt_eq_of_covers 7 _ (by decide +kernel) fun t _ y => ?_
  have h : (outsAt0 m c t).1 = k0_pay9 (F := Ideal) (argP m c) (newV m c) (k0_pay7 (argMc m c) (argMs m c) (argG m c) (argT m c)) (k0_pay8 (argT m c)) := by
    simp only [outsAt0]
    unfold out0_A_7 kernelRun0_A
    sl_unfold_run_names
    frame_out
    simp only [read_whole]
    rw [iblk1, iblk2, iblk3, iblk4, iblk5, iblk6]
    exact congrArg (fun n => k0_pay9 (F := Ideal) (argP m c) (newV m c) (k0_pay7 (argMc m c) (argMs m c) (argG m c) n) (k0_pay8 n)) (iblk0 m c t)
  rw [after0_7, h]
  generalize k0_pay9 (F := Ideal) (argP m c) (newV m c) (k0_pay7 (argMc m c) (argMs m c) (argG m c) (argT m c)) (k0_pay8 (argT m c)) = f
  have e : ((cfg0.win 7).blk t).view.emb y = y := emb_big t y
  rw [e]
  clear h e
  exact cast_eq _ _

/-- The first moment's codes. -/
theorem final8 (c : Dev nD) : (dats m 0 c).arrAt 8 cfg0.N
    = k0_pay12 (newM m c) := by
  refine (dats m 0 c).arrAt_eq_of_covers 8 _ (by decide +kernel) fun t _ y => ?_
  have h : (outsAt0 m c t).2.1 = k0_pay12 (F := Ideal) (newM m c) := by
    frame_out
    simp only [read_whole]
    rw [iblk3, iblk4, iblk2]
  rw [after0_8, h]
  generalize k0_pay12 (F := Ideal) (newM m c) = f
  have e : ((cfg0.win 8).blk t).view.emb y = y := emb_big t y
  rw [e]
  clear h e
  exact cast_eq _ _

/-- The first moment's scales. -/
theorem final9 (c : Dev nD) : (dats m 0 c).arrAt 9 cfg0.N
    = k0_pay11 (newM m c) := by
  refine (dats m 0 c).arrAt_eq_of_covers 9 _ (by decide +kernel) fun t _ y => ?_
  have h : (outsAt0 m c t).2.2.1 = k0_pay11 (F := Ideal) (newM m c) := by
    frame_out
    simp only [read_whole]
    rw [iblk3, iblk4, iblk2]
  rw [after0_9, h]
  generalize k0_pay11 (F := Ideal) (newM m c) = f
  have e : ((cfg0.win 9).blk t).view.emb y = y := emb_scl t y
  rw [e]
  clear h e
  exact cast_eq _ _

/-- The second moment's codes. -/
theorem final10 (c : Dev nD) : (dats m 0 c).arrAt 10 cfg0.N
    = k0_pay2 (k0_pay13 (newV m c)) (k0_pay15 (newV m c)) (k0_pay16 (newV m c)) := by
  refine (dats m 0 c).arrAt_eq_of_covers 10 _ (by decide +kernel) fun t _ y => ?_
  have h : (outsAt0 m c t).2.2.2.1 = k0_pay2 (F := Ideal) (k0_pay13 (newV m c)) (k0_pay15 (newV m c)) (k0_pay16 (newV m c)) := by
    frame_out
    simp only [read_whole]
    rw [iblk5, iblk6, iblk2]
  rw [after0_10, h]
  generalize k0_pay2 (F := Ideal) (k0_pay13 (newV m c)) (k0_pay15 (newV m c)) (k0_pay16 (newV m c)) = f
  have e : ((cfg0.win 10).blk t).view.emb y = y := emb_big t y
  rw [e]
  clear h e
  exact cast_eq _ _

/-- The second moment's scales. -/
theorem final11 (c : Dev nD) : (dats m 0 c).arrAt 11 cfg0.N
    = k0_pay1 (k0_pay15 (newV m c)) (k0_pay16 (newV m c)) := by
  refine (dats m 0 c).arrAt_eq_of_covers 11 _ (by decide +kernel) fun t _ y => ?_
  have h : (outsAt0 m c t).2.2.2.2 = k0_pay1 (F := Ideal) (k0_pay15 (newV m c)) (k0_pay16 (newV m c)) := by
    frame_out
    simp only [read_whole]
    rw [iblk5, iblk6, iblk2]
  rw [after0_11, h]
  generalize k0_pay1 (F := Ideal) (k0_pay15 (newV m c)) (k0_pay16 (newV m c)) = f
  have e : ((cfg0.win 11).blk t).view.emb y = y := emb_scl t y
  rw [e]
  clear h e
  exact cast_eq _ _

end Cert.ReferenceIdeal.Gen
-- ==== Proof.Agree.lean ====
/- On memories that agree on the arguments, the arrays the reference ends with are the ones the kernel ends with: the
   codes and the scales everywhere, the step where the mask is set. -/
module

public import proofs.«01_k».proof.Proof.Equation
public import proofs.«01_k».proof.Proof.RefArray

@[expose] public section

noncomputable section

namespace Cert.Agree

open Idealize.ShloMosaic Idealize.SL.Sem Cert.Adam

/-- The kernel's and the reference's memories. -/
abbrev KMem := (ℓ : Loc Cert.KernelIdeal.nD Cert.KernelIdeal.τ Cert.KernelIdeal.sig) → Buf (Elt Ideal) ℓ
@[inherit_doc KMem]
abbrev RMem := (ℓ : Loc Cert.ReferenceIdeal.nD Cert.ReferenceIdeal.τ Cert.ReferenceIdeal.sig) → Buf (Elt Ideal) ℓ

/-- The step count's array, on the kernel's side. -/
abbrev stepsK (m : KMem) (c : Dev Cert.KernelIdeal.nD) : IVec Cert.KernelIdeal.S_ 32 :=
  m ((c.tc : Thread Cert.KernelIdeal.nD Cert.KernelIdeal.τ).loc Cert.KernelIdeal.main_arg6)

/-- The step count's array, on the reference's side. -/
abbrev stepsR (m : RMem) (c : Dev Cert.ReferenceIdeal.nD) : IVec Cert.ReferenceIdeal.S_ 32 :=
  m ((c.tc : Thread Cert.ReferenceIdeal.nD Cert.ReferenceIdeal.τ).loc Cert.ReferenceIdeal.main_arg6)

/-- The kernel's step count is the one element of its array. -/
theorem argT_K (m : KMem) (c : Dev Cert.KernelIdeal.nD) : Cert.KernelIdeal.Gen.argT m c = stepsK m c ix0 :=
  congrArg (stepsK m c) (funext fun a => a.elim0)

/-- The reference's step count is the one element of its array. -/
theorem argT_R (m : RMem) (c : Dev Cert.ReferenceIdeal.nD) : Cert.ReferenceIdeal.Gen.argT m c = stepsR m c ix0 :=
  congrArg (stepsR m c) (funext fun a => a.elim0)

/-- The two memories hold the same arguments on a device. -/
structure Same (m : KMem) (m' : RMem) (c : Dev Cert.KernelIdeal.nD) : Prop where
  p : Cert.ReferenceIdeal.Gen.argP m' c = Cert.KernelIdeal.Gen.argP m c
  g : Cert.ReferenceIdeal.Gen.argG m' c = Cert.KernelIdeal.Gen.argG m c
  mc : Cert.ReferenceIdeal.Gen.argMc m' c = Cert.KernelIdeal.Gen.argMc m c
  ms : Cert.ReferenceIdeal.Gen.argMs m' c = Cert.KernelIdeal.Gen.argMs m c
  vc : Cert.ReferenceIdeal.Gen.argVc m' c = Cert.KernelIdeal.Gen.argVc m c
  vs : Cert.ReferenceIdeal.Gen.argVs m' c = Cert.KernelIdeal.Gen.argVs m c
  t : stepsR m' c = stepsK m c

variable {m : KMem} {m' : RMem} {c : Dev Cert.KernelIdeal.nD} (h : Same m m' c)
include h

/-- The first moment's codes agree. -/
theorem res8 : (Cert.ReferenceIdeal.Gen.dats m' 0 c).arrAt 8 Cert.ReferenceIdeal.cfg0.N
    = (Cert.KernelIdeal.Gen.dats m 0 c).arrAt 8 Cert.KernelIdeal.cfg0.N := by
  refine (Cert.ReferenceIdeal.Gen.final8 m' c).trans (Eq.trans ?_ (Cert.KernelIdeal.Gen.final8 m c).symm)
  unfold Cert.ReferenceIdeal.Gen.newM
  rw [h.g, h.mc, h.ms]
  exact Cert.Equation.m_codes _ _ _

/-- The first moment's scales agree. -/
theorem res9 : (Cert.ReferenceIdeal.Gen.dats m' 0 c).arrAt 9 Cert.ReferenceIdeal.cfg0.N
    = (Cert.KernelIdeal.Gen.dats m 0 c).arrAt 9 Cert.KernelIdeal.cfg0.N := by
  refine (Cert.ReferenceIdeal.Gen.final9 m' c).trans (Eq.trans ?_ (Cert.KernelIdeal.Gen.final9 m c).symm)
  unfold Cert.ReferenceIdeal.Gen.newM
  rw [h.g, h.mc, h.ms]
  exact Cert.Equation.m_scales _ _ _

/-- The second moment's codes agree. -/
theorem res10 : (Cert.ReferenceIdeal.Gen.dats m' 0 c).arrAt 10 Cert.ReferenceIdeal.cfg0.N
    = (Cert.KernelIdeal.Gen.dats m 0 c).arrAt 10 Cert.KernelIdeal.cfg0.N := by
  refine (Cert.ReferenceIdeal.Gen.final10 m' c).trans (Eq.trans ?_ (Cert.KernelIdeal.Gen.final10 m c).symm)
  unfold Cert.ReferenceIdeal.Gen.newV
  rw [h.g, h.vc, h.vs]
  exact Cert.Equation.v_codes _ _ _

/-- The second moment's scales agree. -/
theorem res11 : (Cert.ReferenceIdeal.Gen.dats m' 0 c).arrAt 11 Cert.ReferenceIdeal.cfg0.N
    = (Cert.KernelIdeal.Gen.dats m 0 c).arrAt 11 Cert.KernelIdeal.cfg0.N := by
  refine (Cert.ReferenceIdeal.Gen.final11 m' c).trans (Eq.trans ?_ (Cert.KernelIdeal.Gen.final11 m c).symm)
  unfold Cert.ReferenceIdeal.Gen.newV
  rw [h.g, h.vc, h.vs]
  exact Cert.Equation.v_scales _ _ _

/-- The step agrees where the mask is set. -/
theorem res7 (y : Cert.KernelIdeal.S3072x5120.Idx)
    (hy : (Cert.On_delta_defined.fn (F := Ideal) (Cert.KernelIdeal.Gen.argP m c) (Cert.KernelIdeal.Gen.argG m c)
      (Cert.KernelIdeal.Gen.argMc m c) (Cert.KernelIdeal.Gen.argMs m c) (Cert.KernelIdeal.Gen.argVc m c)
      (Cert.KernelIdeal.Gen.argVs m c) (stepsK m c)).1 y = 1#1) :
    (Cert.ReferenceIdeal.Gen.dats m' 0 c).arrAt 7 Cert.ReferenceIdeal.cfg0.N y
      = (Cert.KernelIdeal.Gen.dats m 0 c).arrAt 7 Cert.KernelIdeal.cfg0.N y := by
  refine (congrFun (Cert.ReferenceIdeal.Gen.final7 m' c) y).trans
    (Eq.trans ?_ (congrFun (Cert.KernelIdeal.Gen.final7 m c) y).symm)
  unfold Cert.ReferenceIdeal.Gen.newV
  rw [argT_K, argT_R, h.p, h.g, h.mc, h.ms, h.vc, h.vs, h.t]
  exact Cert.Equation.delta_eq _ _ _ _ _ _ _ y hy

end Cert.Agree
-- ==== Proof.lean ====
/- The proof of the certificate: the three frames, the named constants, and the equality of the kernel's five results
   with the reference's. -/
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Gen.On_delta_defined
public import proofs.«01_k».proof.Proof.Agree

@[expose] public section

noncomputable section

namespace Cert.Proof

open Idealize.ShloMosaic Idealize.SL.Sem

/-- Each named constant has the value its name stands for. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

/-- From memories agreeing on the arguments, the kernel and the reference end with equal codes and scales of both moments,
    and with equal steps where the mask is set. -/
theorem algebraic : Cert.algebraic_KernelIdeal_ReferenceIdeal_on_delta_defined := by
  intro m ρ m' ρ' _ hargs
  have same : ∀ c, Cert.Agree.Same m m' c := fun c =>
    let ⟨h0, h1, h2, h3, h4, h5, h6⟩ := hargs c
    ⟨h0, h1, h2, h3, h4, h5, h6⟩
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N, ?_, ?_⟩
  · refine (θ_run Cert.KernelIdeal.defs _ _).mono (fun r h c => ?_) (Cert.KernelIdeal.Value.run_blocks m ρ)
    obtain ⟨h7, h8, h9, h10, h11, hargs⟩ := h c
    exact ⟨fun i _ => congrFun h7 i, fun i _ => congrFun h8 i, fun i _ => congrFun h9 i, fun i _ => congrFun h10 i,
      fun i _ => congrFun h11 i, hargs⟩
  · refine (θ_run Cert.ReferenceIdeal.defs _ _).mono (fun r h c => ?_) (Cert.ReferenceIdeal.Value.run_blocks m' ρ')
    obtain ⟨h7, h8, h9, h10, h11, hargs⟩ := h c
    exact ⟨fun i hi => (congrFun h7 i).trans (Cert.Agree.res7 (same c) i hi),
      fun i _ => congrFun (h8.trans (Cert.Agree.res8 (same c))) i,
      fun i _ => congrFun (h9.trans (Cert.Agree.res9 (same c))) i,
      fun i _ => congrFun (h10.trans (Cert.Agree.res10 (same c))) i,
      fun i _ => congrFun (h11.trans (Cert.Agree.res11 (same c))) i, hargs⟩

/-- The certificate's claims hold. -/
theorem claim : Cert.Claim :=
  ⟨Cert.Kernel.Gen.facts, Cert.KernelIdeal.Gen.facts, Cert.ReferenceIdeal.Gen.facts, Cert.On_delta_defined.Gen.facts,
    fun m ρ _ => Cert.Kernel.Gen.frame m ρ, fun m ρ _ => Cert.KernelIdeal.Gen.frame m ρ,
    fun m ρ _ => Cert.ReferenceIdeal.Gen.frame m ρ, preserves, algebraic⟩

end Cert.Proof

end
